-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v61) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v25) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v50) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Gate (hGate := hGate)
    ∧ quiescent_GateIdeal (hGateIdeal := hGateIdeal)
    ∧ quiescent_GateRefIdeal (hGateRefIdeal := hGateRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Gate_GateIdeal
    ∧ algebraic_GateIdeal_GateRefIdeal (hGateIdeal := hGateIdeal) (hGateRefIdeal := hGateRefIdeal)
    ∧ preserves_Norm_NormIdeal
    ∧ algebraic_NormIdeal_NormRefIdeal (hNormIdeal := hNormIdeal) (hNormRefIdeal := hNormRefIdeal)
-- ==== Pre_finite.lean ====
abbrev S20480x3072 : Shape := ⟨2, ![20480, 3072]⟩
abbrev S20480x10368 : Shape := ⟨2, ![20480, 10368]⟩
abbrev S8x8x128x128 : Shape := ⟨4, ![8, 8, 128, 128]⟩
abbrev S8 : Shape := ⟨1, ![8]⟩
abbrev S_ : Shape := ⟨0, ![]⟩

class Facts : Prop where
  bcast_S_S20480x3072 : S_.BroadcastsInDim S20480x3072 (![] : Fin 0 → Fin S20480x3072.rank)
  reducesTo_S20480x3072_S_d0_1 : S20480x3072.ReducesTo [0, 1] S_
  h_S_ : 0 < S_.numel
  bcast_S_S20480x10368 : S_.BroadcastsInDim S20480x10368 (![] : Fin 0 → Fin S20480x10368.rank)
  reducesTo_S20480x10368_S_d0_1 : S20480x10368.ReducesTo [0, 1] S_
  bcast_S_S8x8x128x128 : S_.BroadcastsInDim S8x8x128x128 (![] : Fin 0 → Fin S8x8x128x128.rank)
  reducesTo_S8x8x128x128_S_d0_1_2_3 : S8x8x128x128.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v14 : IVec S_ 1) (main_v15 : FVec F S8 .f32) (main_cst_5 : FVec F S_ .f32) : IVec S_ 1 :=
  let main_v16 : FVec F S8 .f32 := broadcastInDim S8 ![] bcast_S_S8 main_cst_5
  let main_v17 : IVec S8 1 := cmpf .olt main_v15 main_v16
  let main_c_6 : IVec S_ 1 := constantI S_ 1 1#1
  let main_v18 : IVec S_ 1 := (fun x v => Host.reduce IntOp.andi x v reducesTo_S8_S_d0 h_S_) main_v17 main_c_6
  let main_v19 : IVec S_ 1 := andi main_v14 main_v18
  let main_v20 : FVec F S8 .f32 := Host.absf main_arg4
  let main_cst_7 : FVec F S_ .f32 := constant S_ .f32 0x7F800000#32
  let main_v21 : FVec F S8 .f32 := broadcastInDim S8 ![] bcast_S_S8 main_cst_7
  let main_v22 : IVec S8 1 := cmpf .olt main_v20 main_v21
  let main_c_8 : IVec S_ 1 := constantI S_ 1 1#1
  let main_v23 : IVec S_ 1 := (fun x v => Host.reduce IntOp.andi x v reducesTo_S8_S_d0 h_S_) main_v22 main_c_8
  let main_v24 : IVec S_ 1 := andi main_v19 main_v23
  main_v24

def fn {F : FTy → Type} [FloatOps F] (main_arg0 : FVec F S20480x3072 .f32) (main_arg1 : FVec F S20480x10368 .f32) (main_arg2 : FVec F S8x8x128x128 .f32) (main_arg3 : FVec F S8 .f32) (main_arg4 : FVec F S8 .f32) : IVec S_ 1 :=
  let main_v0 : FVec F S20480x3072 .f32 := Host.absf main_arg0
  let main_cst : FVec F S_ .f32 := constant S_ .f32 0x7F800000#32
  let main_v1 : FVec F S20480x3072 .f32 := broadcastInDim S20480x3072 ![] bcast_S_S20480x3072 main_cst
  let main_v2 : IVec S20480x3072 1 := cmpf .olt main_v0 main_v1
  let main_c : IVec S_ 1 := constantI S_ 1 1#1
  let main_v3 : IVec S_ 1 := (fun x v => Host.reduce IntOp.andi x v reducesTo_S20480x3072_S_d0_1 h_S_) main_v2 main_c
  let main_c_0 : IVec S_ 1 := constantI S_ 1 1#1
  let main_v4 : IVec S_ 1 := andi main_c_0 main_v3
  let main_v5 : FVec F S20480x10368 .f32 := Host.absf main_arg1
  let main_cst_1 : FVec F S_ .f32 := constant S_ .f32 0x7F800000#32
  let main_v6 : FVec F S20480x10368 .f32 := broadcastInDim S20480x10368 ![] bcast_S_S20480x10368 main_cst_1
  let main_v7 : IVec S20480x10368 1 := cmpf .olt main_v5 main_v6
  let main_c_2 : IVec S_ 1 := constantI S_ 1 1#1
  let main_v8 : IVec S_ 1 := (fun x v => Host.reduce IntOp.andi x v reducesTo_S20480x10368_S_d0_1 h_S_) main_v7 main_c_2
  let main_v9 : IVec S_ 1 := andi main_v4 main_v8
  let main_v10 : FVec F S8x8x128x128 .f32 := Host.absf main_arg2
  let main_cst_3 : FVec F S_ .f32 := constant S_ .f32 0x7F800000#32
  let main_v11 : FVec F S8x8x128x128 .f32 := broadcastInDim S8x8x128x128 ![] bcast_S_S8x8x128x128 main_cst_3
  let main_v12 : IVec S8x8x128x128 1 := cmpf .olt main_v10 main_v11
  let main_c_4 : IVec S_ 1 := constantI S_ 1 1#1
  let main_v13 : IVec S_ 1 := (fun x v => Host.reduce IntOp.andi x v reducesTo_S8x8x128x128_S_d0_1_2_3 h_S_) main_v12 main_c_4
  let main_v14 : IVec S_ 1 := andi main_v9 main_v13
  let main_v15 : FVec F S8 .f32 := Host.absf main_arg3
  let main_cst_5 : FVec F S_ .f32 := constant S_ .f32 0x7F800000#32
  fn_part1 (F := F) main_arg4 main_v14 main_v15 main_cst_5
-- ==== Kernel.lean ====
abbrev S20480x3072 : Shape := ⟨2, ![20480, 3072]⟩
abbrev S20480x10368 : Shape := ⟨2, ![20480, 10368]⟩
abbrev S8x8x128x128 : Shape := ⟨4, ![8, 8, 128, 128]⟩
abbrev S8 : Shape := ⟨1, ![8]⟩
abbrev S256x256 : Shape := ⟨2, ![256, 256]⟩
abbrev S_ : Shape := ⟨0, ![]⟩
abbrev S8x256x256 : Shape := ⟨3, ![8, 256, 256]⟩
abbrev S1x256x256 : Shape := ⟨3, ![1, 256, 256]⟩
abbrev S10x256x256 : Shape := ⟨3, ![10, 256, 256]⟩
abbrev S128 : Shape := ⟨1, ![128]⟩
abbrev S128x1 : Shape := ⟨2, ![128, 1]⟩
abbrev S1x128 : Shape := ⟨2, ![1, 128]⟩
abbrev S16384x1024 : Shape := ⟨2, ![16384, 1024]⟩
abbrev S256x1024 : Shape := ⟨2, ![256, 1024]⟩
abbrev S256x128 : Shape := ⟨2, ![256, 128]⟩
abbrev S1x8x128x128 : Shape := ⟨4, ![1, 8, 128, 128]⟩
abbrev S8x128x128 : Shape := ⟨3, ![8, 128, 128]⟩
abbrev S128x256 : Shape := ⟨2, ![128, 256]⟩
abbrev S256x1 : Shape := ⟨2, ![256, 1]⟩
abbrev S1x256 : Shape := ⟨2, ![1, 256]⟩
abbrev S1x128x128 : Shape := ⟨3, ![1, 128, 128]⟩
abbrev S128x128 : Shape := ⟨2, ![128, 128]⟩
abbrev S1x1 : Shape := ⟨2, ![1, 1]⟩

abbrev nBuf : Space → Nat
  | .hbm => 94
  | .vmem => 20
  | .smem => 0
  | _ => 0

abbrev bufTy : (tb : Table) → Fin (tcTables nBuf tb) → BufTy
  | .hbm, ⟨0, _⟩ => ⟨S20480x3072, .f32⟩
  | .hbm, ⟨1, _⟩ => ⟨S20480x10368, .f32⟩
  | .hbm, ⟨2, _⟩ => ⟨S8x8x128x128, .f32⟩
  | .hbm, ⟨3, _⟩ => ⟨S8, .f32⟩
  | .hbm, ⟨4, _⟩ => ⟨S8, .f32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .i1⟩
  | .hbm, ⟨9, _⟩ => ⟨S256x256, .i1⟩
  | .hbm, ⟨10, _⟩ => ⟨S_, .i32⟩
  | .hbm, ⟨11, _⟩ => ⟨S8x256x256, .i32⟩
  | .hbm, ⟨12, _⟩ => ⟨S8x256x256, .i32⟩
  | .hbm, ⟨13, _⟩ => ⟨S8x256x256, .i32⟩
  | .hbm, ⟨14, _⟩ => ⟨S8x256x256, .i32⟩
  | .hbm, ⟨15, _⟩ => ⟨S8x256x256, .i32⟩
  | .hbm, ⟨16, _⟩ => ⟨S_, .i32⟩
  | .hbm, ⟨17, _⟩ => ⟨S8x256x256, .i32⟩
  | .hbm, ⟨18, _⟩ => ⟨S8x256x256, .i32⟩
  | .hbm, ⟨19, _⟩ => ⟨S8x256x256, .i32⟩
  | .hbm, ⟨20, _⟩ => ⟨S_, .i32⟩
  | .hbm, ⟨21, _⟩ => ⟨S8x256x256, .i32⟩
  | .hbm, ⟨22, _⟩ => ⟨S8x256x256, .i32⟩
  | .hbm, ⟨23, _⟩ => ⟨S8x256x256, .i32⟩
  | .hbm, ⟨24, _⟩ => ⟨S8x256x256, .i1⟩
  | .hbm, ⟨25, _⟩ => ⟨S_, .i32⟩
  | .hbm, ⟨26, _⟩ => ⟨S8x256x256, .i32⟩
  | .hbm, ⟨27, _⟩ => ⟨S8x256x256, .i32⟩
  | .hbm, ⟨28, _⟩ => ⟨S8x256x256, .i32⟩
  | .hbm, ⟨29, _⟩ => ⟨S8x256x256, .i1⟩
  | .hbm, ⟨30, _⟩ => ⟨S8x256x256, .i1⟩
  | .hbm, ⟨31, _⟩ => ⟨S_, .i32⟩
  | .hbm, ⟨32, _⟩ => ⟨S8x256x256, .i32⟩
  | .hbm, ⟨33, _⟩ => ⟨S8x256x256, .i32⟩
  | .hbm, ⟨34, _⟩ => ⟨S8x256x256, .i32⟩
  | .hbm, ⟨35, _⟩ => ⟨S8x256x256, .i1⟩
  | .hbm, ⟨36, _⟩ => ⟨S8x256x256, .i1⟩
  | .hbm, ⟨37, _⟩ => ⟨S1x256x256, .i1⟩
  | .hbm, ⟨38, _⟩ => ⟨S1x256x256, .i1⟩
  | .hbm, ⟨39, _⟩ => ⟨S10x256x256, .i1⟩
  | .hbm, ⟨40, _⟩ => ⟨S10x256x256, .f32⟩
  | .hbm, ⟨41, _⟩ => ⟨S256x256, .f32⟩
  | .hbm, ⟨42, _⟩ => ⟨S256x256, .f32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S128, .i1⟩
  | .hbm, ⟨62, _⟩ => ⟨S8, .f32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S_, .i32⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S128x1, .i32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S_, .i32⟩
  | .hbm, ⟨79, _⟩ => ⟨S128, .i32⟩
  | .hbm, ⟨80, _⟩ => ⟨S128, .i1⟩
  | .hbm, ⟨81, _⟩ => ⟨S_, .i32⟩
  | .hbm, ⟨82, _⟩ => ⟨S128, .i32⟩
  | .hbm, ⟨83, _⟩ => ⟨S128, .i32⟩
  | .hbm, ⟨84, _⟩ => ⟨S128, .i32⟩
  | .hbm, ⟨85, _⟩ => ⟨S128x1, .i32⟩
  | .hbm, ⟨86, _⟩ => ⟨S128, .f32⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S16384x1024, .f32⟩
  | .hbm, ⟨93, _⟩ => ⟨S8x8x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S1x8x128x128, .f32⟩
  | .local _ .vmem, ⟨9, _⟩ => ⟨S1x8x128x128, .f32⟩
  | .local _ .vmem, ⟨10, _⟩ => ⟨S1x128, .f32⟩
  | .local _ .vmem, ⟨11, _⟩ => ⟨S1x128, .f32⟩
  | .local _ .vmem, ⟨12, _⟩ => ⟨S10x256x256, .f32⟩
  | .local _ .vmem, ⟨13, _⟩ => ⟨S256x256, .f32⟩
  | .local _ .vmem, ⟨14, _⟩ => ⟨S256x256, .f32⟩
  | .local _ .vmem, ⟨15, _⟩ => ⟨S256x1024, .f32⟩
  | .local _ .vmem, ⟨16, _⟩ => ⟨S256x1024, .f32⟩
  | .local _ .vmem, ⟨17, _⟩ => ⟨S1x8x128x128, .f32⟩
  | .local _ .vmem, ⟨18, _⟩ => ⟨S1x8x128x128, .f32⟩
  | .local _ .vmem, ⟨19, _⟩ => ⟨S8x128x128, .f32⟩
  | _, _ => ⟨S20480x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_c_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst : Ref sig .tc := ⟨.hbm, 73, rfl⟩
abbrev main_call1_v0 : Ref sig .tc := ⟨.hbm, 74, rfl⟩
abbrev main_call1_v1 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v60 : Ref sig .tc := ⟨.hbm, 90, rfl⟩
abbrev main_v61 : Ref sig .tc := ⟨.hbm, 91, rfl⟩
abbrev main_v62_0 : Ref sig .tc := ⟨.hbm, 92, rfl⟩
abbrev main_v62_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v1185 : BitVec 1 := Scalar.cmpi .eq arg1 c7_i32
  let v1186 : BitVec 32 := Scalar.extui v1185
  let c0_i32_495 : BitVec 32 := 0#32
  let v1187 : BitVec 1 := Scalar.cmpi .ne v1186 c0_i32_495
  v1187

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c1_i32 : BitVec 32 := 1#32
  let c0_i32 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c80_i32 : BitVec 32 := 80#32
  let c0_i32 : BitVec 32 := 0#32
  ![v2.toNat, c80_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg1
  let c16_i32_0 : BitVec 32 := 16#32
  let v3 : BitVec 32 := Scalar.subi v2 c16_i32_0
  let c0_i32 : BitVec 32 := 0#32
  let c0_i32_1 : BitVec 32 := 0#32
  ![v3.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S10x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "masked" => some ⊥
  | _ => none
-- ==== ReferenceIdeal.lean ====
abbrev S20480x3072 : Shape := ⟨2, ![20480, 3072]⟩
abbrev S20480x10368 : Shape := ⟨2, ![20480, 10368]⟩
abbrev S8x8x128x128 : Shape := ⟨4, ![8, 8, 128, 128]⟩
abbrev S8 : Shape := ⟨1, ![8]⟩
abbrev S16384x3072 : Shape := ⟨2, ![16384, 3072]⟩
abbrev S8x2048x3x8x128 : Shape := ⟨5, ![8, 2048, 3, 8, 128]⟩
abbrev S16384x128 : Shape := ⟨2, ![16384, 128]⟩
abbrev S8x2048x128 : Shape := ⟨3, ![8, 2048, 128]⟩
abbrev S8x2048x8 : Shape := ⟨3, ![8, 2048, 8]⟩
abbrev S_ : Shape := ⟨0, ![]⟩
abbrev S1x1x8 : Shape := ⟨3, ![1, 1, 8]⟩
abbrev S2048x8x3x8x128 : Shape := ⟨5, ![2048, 8, 3, 8, 128]⟩
abbrev S2048x8x8 : Shape := ⟨3, ![2048, 8, 8]⟩
abbrev S2048x8x8x128 : Shape := ⟨4, ![2048, 8, 8, 128]⟩
abbrev S1x8x3x8x128 : Shape := ⟨5, ![1, 8, 3, 8, 128]⟩
abbrev S8x3x8x128 : Shape := ⟨4, ![8, 3, 8, 128]⟩
abbrev S1x8x8 : Shape := ⟨3, ![1, 8, 8]⟩
abbrev S8x8 : Shape := ⟨2, ![8, 8]⟩
abbrev S8x1x8x128 : Shape := ⟨4, ![8, 1, 8, 128]⟩
abbrev S8x8x128 : Shape := ⟨3, ![8, 8, 128]⟩
abbrev S8x8x1x1 : Shape := ⟨4, ![8, 8, 1, 1]⟩
abbrev S8x8x1 : Shape := ⟨3, ![8, 8, 1]⟩
abbrev S8x8x128x1 : Shape := ⟨4, ![8, 8, 128, 1]⟩
abbrev S8x8x1x128 : Shape := ⟨4, ![8, 8, 1, 128]⟩
abbrev S1x8x8x128 : Shape := ⟨4, ![1, 8, 8, 128]⟩
abbrev S8x2048x8x128 : Shape := ⟨4, ![8, 2048, 8, 128]⟩
abbrev S16384x1024 : Shape := ⟨2, ![16384, 1024]⟩

abbrev nBuf : Space → Nat
  | .hbm => 108
  | .vmem => 0
  | .smem => 0
  | _ => 0

abbrev bufTy : (tb : Table) → Fin (tcTables nBuf tb) → BufTy
  | .hbm, ⟨0, _⟩ => ⟨S20480x3072, .f32⟩
  | .hbm, ⟨1, _⟩ => ⟨S20480x10368, .f32⟩
  | .hbm, ⟨2, _⟩ => ⟨S8x8x128x128, .f32⟩
  | .hbm, ⟨3, _⟩ => ⟨S8, .f32⟩
  | .hbm, ⟨4, _⟩ => ⟨S8, .f32⟩
  | .hbm, ⟨5, _⟩ => ⟨S16384x3072, .f32⟩
  | .hbm, ⟨6, _⟩ => ⟨S8x2048x3x8x128, .f32⟩
  | .hbm, ⟨7, _⟩ => ⟨S16384x128, .f32⟩
  | .hbm, ⟨8, _⟩ => ⟨S8x2048x128, .f32⟩
  | .hbm, ⟨9, _⟩ => ⟨S8x2048x8, .f32⟩
  | .hbm, ⟨10, _⟩ => ⟨S8x2048x8, .f32⟩
  | .hbm, ⟨11, _⟩ => ⟨S8x2048x8, .f32⟩
  | .hbm, ⟨12, _⟩ => ⟨S_, .f32⟩
  | .hbm, ⟨13, _⟩ => ⟨S8x2048x8, .f32⟩
  | .hbm, ⟨14, _⟩ => ⟨S8x2048x8, .f32⟩
  | .hbm, ⟨15, _⟩ => ⟨S_, .f32⟩
  | .hbm, ⟨16, _⟩ => ⟨S8x2048x8, .f32⟩
  | .hbm, ⟨17, _⟩ => ⟨S8x2048x8, .f32⟩
  | .hbm, ⟨18, _⟩ => ⟨S8, .f32⟩
  | .hbm, ⟨19, _⟩ => ⟨S8, .f32⟩
  | .hbm, ⟨20, _⟩ => ⟨S8x2048x8, .f32⟩
  | .hbm, ⟨21, _⟩ => ⟨S1x1x8, .f32⟩
  | .hbm, ⟨22, _⟩ => ⟨S8x2048x8, .f32⟩
  | .hbm, ⟨23, _⟩ => ⟨S8x2048x8, .f32⟩
  | .hbm, ⟨24, _⟩ => ⟨S_, .f32⟩
  | .hbm, ⟨25, _⟩ => ⟨S8x2048x8, .f32⟩
  | .hbm, ⟨26, _⟩ => ⟨S8x2048x8, .f32⟩
  | .hbm, ⟨27, _⟩ => ⟨S8x2048x8, .f32⟩
  | .hbm, ⟨28, _⟩ => ⟨S8x2048x8, .f32⟩
  | .hbm, ⟨29, _⟩ => ⟨S8x2048x8, .i1⟩
  | .hbm, ⟨30, _⟩ => ⟨S8x2048x8, .f32⟩
  | .hbm, ⟨31, _⟩ => ⟨S8x2048x8, .f32⟩
  | .hbm, ⟨32, _⟩ => ⟨S8x2048x8, .f32⟩
  | .hbm, ⟨33, _⟩ => ⟨S8x2048x8, .f32⟩
  | .hbm, ⟨34, _⟩ => ⟨S8x2048x8, .f32⟩
  | .hbm, ⟨35, _⟩ => ⟨S8x2048x8, .f32⟩
  | .hbm, ⟨36, _⟩ => ⟨S8x2048x8, .f32⟩
  | .hbm, ⟨37, _⟩ => ⟨S8x2048x8, .f32⟩
  | .hbm, ⟨38, _⟩ => ⟨S1x1x8, .f32⟩
  | .hbm, ⟨39, _⟩ => ⟨S8x2048x8, .f32⟩
  | .hbm, ⟨40, _⟩ => ⟨S8x2048x8, .f32⟩
  | .hbm, ⟨41, _⟩ => ⟨S2048x8x3x8x128, .f32⟩
  | .hbm, ⟨42, _⟩ => ⟨S2048x8x8, .f32⟩
  | .hbm, ⟨43, _⟩ => ⟨S2048x8x8, .f32⟩
  | .hbm, ⟨44, _⟩ => ⟨S_, .f32⟩
  | .hbm, ⟨45, _⟩ => ⟨S2048x8x8x128, .f32⟩
  | .hbm, ⟨46, _⟩ => ⟨S_, .i32⟩
  | .hbm, ⟨47, _⟩ => ⟨S2048x8x3x8x128, .f32⟩
  | .hbm, ⟨48, _⟩ => ⟨S2048x8x8, .f32⟩
  | .hbm, ⟨49, _⟩ => ⟨S2048x8x8, .f32⟩
  | .hbm, ⟨50, _⟩ => ⟨S_, .i32⟩
  | .hbm, ⟨51, _⟩ => ⟨S8x8x128x128, .f32⟩
  | .hbm, ⟨52, _⟩ => ⟨S2048x8x8x128, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x8x3x8x128, .f32⟩
  | .hbm, ⟨60, _⟩ => ⟨S8x3x8x128, .f32⟩
  | .hbm, ⟨61, _⟩ => ⟨S_, .i32⟩
  | .hbm, ⟨62, _⟩ => ⟨S_, .i32⟩
  | .hbm, ⟨63, _⟩ => ⟨S1x8x8, .f32⟩
  | .hbm, ⟨64, _⟩ => ⟨S8x8, .f32⟩
  | .hbm, ⟨65, _⟩ => ⟨S_, .i32⟩
  | .hbm, ⟨66, _⟩ => ⟨S_, .i32⟩
  | .hbm, ⟨67, _⟩ => ⟨S1x8x8, .f32⟩
  | .hbm, ⟨68, _⟩ => ⟨S8x8, .f32⟩
  | .hbm, ⟨69, _⟩ => ⟨S8x1x8x128, .f32⟩
  | .hbm, ⟨70, _⟩ => ⟨S8x8x128, .f32⟩
  | .hbm, ⟨71, _⟩ => ⟨S8x1x8x128, .f32⟩
  | .hbm, ⟨72, _⟩ => ⟨S8x8x128, .f32⟩
  | .hbm, ⟨73, _⟩ => ⟨S8x1x8x128, .f32⟩
  | .hbm, ⟨74, _⟩ => ⟨S8x8x128, .f32⟩
  | .hbm, ⟨75, _⟩ => ⟨S8x8x128, .f32⟩
  | .hbm, ⟨76, _⟩ => ⟨S8x8, .f32⟩
  | .hbm, ⟨77, _⟩ => ⟨S8x8x1x1, .f32⟩
  | .hbm, ⟨78, _⟩ => ⟨S8x8x1, .f32⟩
  | .hbm, ⟨79, _⟩ => ⟨S8x8x128, .f32⟩
  | .hbm, ⟨80, _⟩ => ⟨S8x8x128, .f32⟩
  | .hbm, ⟨81, _⟩ => ⟨S8x8x128x1, .f32⟩
  | .hbm, ⟨82, _⟩ => ⟨S8x8x1x128, .f32⟩
  | .hbm, ⟨83, _⟩ => ⟨S8x8x128x128, .f32⟩
  | .hbm, ⟨84, _⟩ => ⟨S8x8x128x128, .f32⟩
  | .hbm, ⟨85, _⟩ => ⟨S8x8x128x128, .f32⟩
  | .hbm, ⟨86, _⟩ => ⟨S8x8x128x128, .f32⟩
  | .hbm, ⟨87, _⟩ => ⟨S8x8x128x128, .f32⟩
  | .hbm, ⟨88, _⟩ => ⟨S8x8x128x128, .f32⟩
  | .hbm, ⟨89, _⟩ => ⟨S8x8x1, .f32⟩
  | .hbm, ⟨90, _⟩ => ⟨S8x8x128, .f32⟩
  | .hbm, ⟨91, _⟩ => ⟨S8x8x128, .f32⟩
  | .hbm, ⟨92, _⟩ => ⟨S8x8x128x1, .f32⟩
  | .hbm, ⟨93, _⟩ => ⟨S8x8x1x128, .f32⟩
  | .hbm, ⟨94, _⟩ => ⟨S8x8x128x128, .f32⟩
  | .hbm, ⟨95, _⟩ => ⟨S8x8x128x128, .f32⟩
  | .hbm, ⟨96, _⟩ => ⟨S8x8x128x128, .f32⟩
  | .hbm, ⟨97, _⟩ => ⟨S8x8x128x128, .f32⟩
  | .hbm, ⟨98, _⟩ => ⟨S8x8x128, .f32⟩
  | .hbm, ⟨99, _⟩ => ⟨S1x8x8x128, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S2048x8x8x128, .f32⟩
  | .hbm, ⟨104, _⟩ => ⟨S_, .i32⟩
  | .hbm, ⟨105, _⟩ => ⟨S_, .i32⟩
  | .hbm, ⟨106, _⟩ => ⟨S8x2048x8x128, .f32⟩
  | .hbm, ⟨107, _⟩ => ⟨S16384x1024, .f32⟩
  | _, _ => ⟨S20480x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_c : Ref sig .tc := ⟨.hbm, 46, rfl⟩
abbrev main_v25_0 : Ref sig .tc := ⟨.hbm, 47, rfl⟩
abbrev main_v25_1 : Ref sig .tc := ⟨.hbm, 48, rfl⟩
abbrev main_v25_2 : Ref sig .tc := ⟨.hbm, 49, rfl⟩
abbrev main_v25_3 : Ref sig .tc := ⟨.hbm, 50, rfl⟩
abbrev main_v25_4 : Ref sig .tc := ⟨.hbm, 51, rfl⟩
abbrev main_v25_5 : Ref sig .tc := ⟨.hbm, 52, rfl⟩
abbrev main_while0c_c_7 : Ref sig .tc := ⟨.hbm, 53, rfl⟩
abbrev main_while0c_v28 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_c_2 : Ref sig .tc := ⟨.hbm, 58, rfl⟩
abbrev main_while0b_call1_v0 : Ref sig .tc := ⟨.hbm, 59, rfl⟩
abbrev main_while0b_v28 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_v0 : Ref sig .tc := ⟨.hbm, 63, rfl⟩
abbrev main_while0b_v29 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_v0 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_v53 : Ref sig .tc := ⟨.hbm, 91, rfl⟩
abbrev main_while0b_v54 : Ref sig .tc := ⟨.hbm, 92, rfl⟩
abbrev main_while0b_v55 : Ref sig .tc := ⟨.hbm, 93, rfl⟩
abbrev main_while0b_v56 : Ref sig .tc := ⟨.hbm, 94, rfl⟩
abbrev main_while0b_v57 : Ref sig .tc := ⟨.hbm, 95, rfl⟩
abbrev main_while0b_v58 : Ref sig .tc := ⟨.hbm, 96, rfl⟩
abbrev main_while0b_v59 : Ref sig .tc := ⟨.hbm, 97, rfl⟩
abbrev main_while0b_v60 : Ref sig .tc := ⟨.hbm, 98, rfl⟩
abbrev main_while0b_call4_v0 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_v61 : Ref sig .tc := ⟨.hbm, 103, rfl⟩
abbrev main_while0b_c_7 : Ref sig .tc := ⟨.hbm, 104, rfl⟩
abbrev main_while0b_v62 : Ref sig .tc := ⟨.hbm, 105, rfl⟩
abbrev main_v26 : Ref sig .tc := ⟨.hbm, 106, rfl⟩
abbrev main_v27 : Ref sig .tc := ⟨.hbm, 107, rfl⟩

abbrev nD : Nat := 1
abbrev τ : Topo := Topo.v7x

variable {F : FTy → Type} [FloatOps F]

abbrev main_while0_count : Scf.Loop 32 := ⟨0#32, 2048#32, 1#32⟩
-- ==== InProj.lean ====
abbrev S20480x2048 : Shape := ⟨2, ![20480, 2048]⟩
abbrev S2048 : Shape := ⟨1, ![2048]⟩
abbrev S16x6x1x2048 : Shape := ⟨4, ![16, 6, 1, 2048]⟩
abbrev S2048x10368 : Shape := ⟨2, ![2048, 10368]⟩
abbrev S1x2048 : Shape := ⟨2, ![1, 2048]⟩
abbrev S20480x10368 : Shape := ⟨2, ![20480, 10368]⟩
abbrev S1024x2048 : Shape := ⟨2, ![1024, 2048]⟩
abbrev S1x1x1x2048 : Shape := ⟨4, ![1, 1, 1, 2048]⟩
abbrev S2048x1152 : Shape := ⟨2, ![2048, 1152]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S16x6x1x2048, .f32⟩
  | .hbm, ⟨3, _⟩ => ⟨S2048x10368, .bf16⟩
  | .hbm, ⟨4, _⟩ => ⟨S1x2048, .f32⟩
  | .hbm, ⟨5, _⟩ => ⟨S20480x10368, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1152, .bf16⟩
  | .local _ .vmem, ⟨8, _⟩ => ⟨S2048x1152, .bf16⟩
  | .local _ .vmem, ⟨9, _⟩ => ⟨S1024x1152, .f32⟩
  | .local _ .vmem, ⟨10, _⟩ => ⟨S1024x1152, .f32⟩
  | .local _ .vmem, ⟨11, _⟩ => ⟨S1024x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![20, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![v20.toNat, c1_i32_7.toNat, c0_i32_8.toNat, c0_i32_9.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![v20.toNat, c0_i32_7.toNat, c0_i32_8.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S20480x2048 : Shape := ⟨2, ![20480, 2048]⟩
abbrev S2048 : Shape := ⟨1, ![2048]⟩
abbrev S16x6x1x2048 : Shape := ⟨4, ![16, 6, 1, 2048]⟩
abbrev S2048x10368 : Shape := ⟨2, ![2048, 10368]⟩
abbrev S16x6x2048 : Shape := ⟨3, ![16, 6, 2048]⟩
abbrev S4096x2048 : Shape := ⟨2, ![4096, 2048]⟩
abbrev S16x256x2048 : Shape := ⟨3, ![16, 256, 2048]⟩
abbrev S1x6x2048 : Shape := ⟨3, ![1, 6, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048 : Shape := ⟨2, ![1, 2048]⟩
abbrev S16384x2048 : Shape := ⟨2, ![16384, 2048]⟩
abbrev S8x2048x2048 : Shape := ⟨3, ![8, 2048, 2048]⟩
abbrev S8x6x2048 : Shape := ⟨3, ![8, 6, 2048]⟩
abbrev S8x2048 : Shape := ⟨2, ![8, 2048]⟩
abbrev S8x2048x1 : Shape := ⟨3, ![8, 2048, 1]⟩
abbrev S8x1x2048 : Shape := ⟨3, ![8, 1, 2048]⟩
abbrev S20480x10368 : Shape := ⟨2, ![20480, 10368]⟩

abbrev nBuf : Space → Nat
  | .hbm => 74
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S16x6x1x2048, .f32⟩
  | .hbm, ⟨3, _⟩ => ⟨S2048x10368, .bf16⟩
  | .hbm, ⟨4, _⟩ => ⟨S16x6x2048, .f32⟩
  | .hbm, ⟨5, _⟩ => ⟨S4096x2048, .f32⟩
  | .hbm, ⟨6, _⟩ => ⟨S16x256x2048, .f32⟩
  | .hbm, ⟨7, _⟩ => ⟨S1x6x2048, .f32⟩
  | .hbm, ⟨8, _⟩ => ⟨S16x256x2048, .f32⟩
  | .hbm, ⟨9, _⟩ => ⟨S_, .f32⟩
  | .hbm, ⟨10, _⟩ => ⟨S16x256, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S16x256x1, .f32⟩
  | .hbm, ⟨19, _⟩ => ⟨S16x256x2048, .f32⟩
  | .hbm, ⟨20, _⟩ => ⟨S16x256x2048, .f32⟩
  | .hbm, ⟨21, _⟩ => ⟨S1x1x2048, .f32⟩
  | .hbm, ⟨22, _⟩ => ⟨S16x256x2048, .f32⟩
  | .hbm, ⟨23, _⟩ => ⟨S16x256x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S_, .f32⟩
  | .hbm, ⟨28, _⟩ => ⟨S1x1x2048, .f32⟩
  | .hbm, ⟨29, _⟩ => ⟨S1x1x2048, .f32⟩
  | .hbm, ⟨30, _⟩ => ⟨S16x256x2048, .f32⟩
  | .hbm, ⟨31, _⟩ => ⟨S16x256x2048, .f32⟩
  | .hbm, ⟨32, _⟩ => ⟨S1x1x2048, .f32⟩
  | .hbm, ⟨33, _⟩ => ⟨S1x2048, .f32⟩
  | .hbm, ⟨34, _⟩ => ⟨S1x1x2048, .f32⟩
  | .hbm, ⟨35, _⟩ => ⟨S16x256x2048, .f32⟩
  | .hbm, ⟨36, _⟩ => ⟨S16x256x2048, .f32⟩
  | .hbm, ⟨37, _⟩ => ⟨S4096x2048, .f32⟩
  | .hbm, ⟨38, _⟩ => ⟨S16384x2048, .f32⟩
  | .hbm, ⟨39, _⟩ => ⟨S8x2048x2048, .f32⟩
  | .hbm, ⟨40, _⟩ => ⟨S8x6x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S1x1x2048, .f32⟩
  | .hbm, ⟨55, _⟩ => ⟨S8x2048x2048, .f32⟩
  | .hbm, ⟨56, _⟩ => ⟨S8x2048x2048, .f32⟩
  | .hbm, ⟨57, _⟩ => ⟨S8x1x2048, .f32⟩
  | .hbm, ⟨58, _⟩ => ⟨S8x2048, .f32⟩
  | .hbm, ⟨59, _⟩ => ⟨S8x1x2048, .f32⟩
  | .hbm, ⟨60, _⟩ => ⟨S_, .f32⟩
  | .hbm, ⟨61, _⟩ => ⟨S8x1x2048, .f32⟩
  | .hbm, ⟨62, _⟩ => ⟨S8x1x2048, .f32⟩
  | .hbm, ⟨63, _⟩ => ⟨S8x2048x2048, .f32⟩
  | .hbm, ⟨64, _⟩ => ⟨S8x2048x2048, .f32⟩
  | .hbm, ⟨65, _⟩ => ⟨S8x1x2048, .f32⟩
  | .hbm, ⟨66, _⟩ => ⟨S8x2048, .f32⟩
  | .hbm, ⟨67, _⟩ => ⟨S8x1x2048, .f32⟩
  | .hbm, ⟨68, _⟩ => ⟨S8x2048x2048, .f32⟩
  | .hbm, ⟨69, _⟩ => ⟨S8x2048x2048, .f32⟩
  | .hbm, ⟨70, _⟩ => ⟨S16384x2048, .f32⟩
  | .hbm, ⟨71, _⟩ => ⟨S20480x2048, .f32⟩
  | .hbm, ⟨72, _⟩ => ⟨S2048x10368, .f32⟩
  | .hbm, ⟨73, _⟩ => ⟨S20480x10368, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]
-- ==== Merge.lean ====
abbrev S20480x1024 : Shape := ⟨2, ![20480, 1024]⟩
abbrev S20480x10368 : Shape := ⟨2, ![20480, 10368]⟩
abbrev S128 : Shape := ⟨1, ![128]⟩
abbrev S1024x2048 : Shape := ⟨2, ![1024, 2048]⟩
abbrev S1x128 : Shape := ⟨2, ![1, 128]⟩
abbrev S20480x2048 : Shape := ⟨2, ![20480, 2048]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S20480x1024, .f32⟩
  | .hbm, ⟨1, _⟩ => ⟨S20480x1024, .f32⟩
  | .hbm, ⟨2, _⟩ => ⟨S20480x10368, .f32⟩
  | .hbm, ⟨3, _⟩ => ⟨S20480x1024, .bf16⟩
  | .hbm, ⟨4, _⟩ => ⟨S128, .f32⟩
  | .hbm, ⟨5, _⟩ => ⟨S1024x2048, .f32⟩
  | .hbm, ⟨6, _⟩ => ⟨S1024x2048, .f32⟩
  | .hbm, ⟨7, _⟩ => ⟨S1x128, .f32⟩
  | .hbm, ⟨8, _⟩ => ⟨S1024x2048, .bf16⟩
  | .hbm, ⟨9, _⟩ => ⟨S1024x2048, .bf16⟩
  | .hbm, ⟨10, _⟩ => ⟨S20480x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x128, .f32⟩
  | .local _ .vmem, ⟨13, _⟩ => ⟨S1024x2048, .bf16⟩
  | .local _ .vmem, ⟨14, _⟩ => ⟨S1024x2048, .bf16⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S20480x1024 : Shape := ⟨2, ![20480, 1024]⟩
abbrev S20480x10368 : Shape := ⟨2, ![20480, 10368]⟩
abbrev S128 : Shape := ⟨1, ![128]⟩
abbrev S1024x2048 : Shape := ⟨2, ![1024, 2048]⟩
abbrev S20480x8x128 : Shape := ⟨3, ![20480, 8, 128]⟩
abbrev S_ : Shape := ⟨0, ![]⟩
abbrev S20480x8 : Shape := ⟨2, ![20480, 8]⟩
abbrev S20480x8x1 : Shape := ⟨3, ![20480, 8, 1]⟩
abbrev S1x1x128 : Shape := ⟨3, ![1, 1, 128]⟩
abbrev S20480x2048 : Shape := ⟨2, ![20480, 2048]⟩

abbrev nBuf : Space → Nat
  | .hbm => 63
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x1024, .f32⟩
  | .hbm, ⟨2, _⟩ => ⟨S20480x10368, .f32⟩
  | .hbm, ⟨3, _⟩ => ⟨S20480x1024, .bf16⟩
  | .hbm, ⟨4, _⟩ => ⟨S128, .f32⟩
  | .hbm, ⟨5, _⟩ => ⟨S1024x2048, .f32⟩
  | .hbm, ⟨6, _⟩ => ⟨S1024x2048, .f32⟩
  | .hbm, ⟨7, _⟩ => ⟨S20480x1024, .f32⟩
  | .hbm, ⟨8, _⟩ => ⟨S20480x8x128, .f32⟩
  | .hbm, ⟨9, _⟩ => ⟨S20480x1024, .f32⟩
  | .hbm, ⟨10, _⟩ => ⟨S20480x8x128, .f32⟩
  | .hbm, ⟨11, _⟩ => ⟨S20480x8x128, .f32⟩
  | .hbm, ⟨12, _⟩ => ⟨S_, .f32⟩
  | .hbm, ⟨13, _⟩ => ⟨S20480x8, .f32⟩
  | .hbm, ⟨14, _⟩ => ⟨S20480x8x1, .f32⟩
  | .hbm, ⟨15, _⟩ => ⟨S_, .f32⟩
  | .hbm, ⟨16, _⟩ => ⟨S20480x8x1, .f32⟩
  | .hbm, ⟨17, _⟩ => ⟨S20480x8x1, .f32⟩
  | .hbm, ⟨18, _⟩ => ⟨S_, .f32⟩
  | .hbm, ⟨19, _⟩ => ⟨S20480x8x1, .f32⟩
  | .hbm, ⟨20, _⟩ => ⟨S20480x8x1, .f32⟩
  | .hbm, ⟨21, _⟩ => ⟨S20480x8x1, .f32⟩
  | .hbm, ⟨22, _⟩ => ⟨S20480x8x128, .f32⟩
  | .hbm, ⟨23, _⟩ => ⟨S20480x8x128, .f32⟩
  | .hbm, ⟨24, _⟩ => ⟨S1x1x128, .f32⟩
  | .hbm, ⟨25, _⟩ => ⟨S20480x8x128, .f32⟩
  | .hbm, ⟨26, _⟩ => ⟨S20480x8x128, .f32⟩
  | .hbm, ⟨27, _⟩ => ⟨S20480x8x128, .f32⟩
  | .hbm, ⟨28, _⟩ => ⟨S20480x8x128, .f32⟩
  | .hbm, ⟨29, _⟩ => ⟨S_, .f32⟩
  | .hbm, ⟨30, _⟩ => ⟨S20480x8x128, .f32⟩
  | .hbm, ⟨31, _⟩ => ⟨S20480x8x128, .f32⟩
  | .hbm, ⟨32, _⟩ => ⟨S_, .f32⟩
  | .hbm, ⟨33, _⟩ => ⟨S20480x8x128, .f32⟩
  | .hbm, ⟨34, _⟩ => ⟨S20480x8x128, .f32⟩
  | .hbm, ⟨35, _⟩ => ⟨S20480x8x128, .f32⟩
  | .hbm, ⟨36, _⟩ => ⟨S20480x8x128, .f32⟩
  | .hbm, ⟨37, _⟩ => ⟨S20480x1024, .f32⟩
  | .hbm, ⟨38, _⟩ => ⟨S20480x2048, .f32⟩
  | .hbm, ⟨39, _⟩ => ⟨S20480x1024, .f32⟩
  | .hbm, ⟨40, _⟩ => ⟨S20480x2048, .f32⟩
  | .hbm, ⟨41, _⟩ => ⟨S20480x2048, .f32⟩
  | .hbm, ⟨42, _⟩ => ⟨S20480x2048, .f32⟩
  | .hbm, ⟨43, _⟩ => ⟨S20480x2048, .f32⟩
  | .hbm, ⟨44, _⟩ => ⟨S_, .f32⟩
  | .hbm, ⟨45, _⟩ => ⟨S20480x2048, .f32⟩
  | .hbm, ⟨46, _⟩ => ⟨S20480x2048, .f32⟩
  | .hbm, ⟨47, _⟩ => ⟨S_, .f32⟩
  | .hbm, ⟨48, _⟩ => ⟨S20480x2048, .f32⟩
  | .hbm, ⟨49, _⟩ => ⟨S20480x2048, .f32⟩
  | .hbm, ⟨50, _⟩ => ⟨S20480x2048, .f32⟩
  | .hbm, ⟨51, _⟩ => ⟨S20480x2048, .f32⟩
  | .hbm, ⟨52, _⟩ => ⟨S20480x2048, .f32⟩
  | .hbm, ⟨53, _⟩ => ⟨S20480x2048, .f32⟩
  | .hbm, ⟨54, _⟩ => ⟨S_, .f32⟩
  | .hbm, ⟨55, _⟩ => ⟨S20480x2048, .f32⟩
  | .hbm, ⟨56, _⟩ => ⟨S20480x2048, .f32⟩
  | .hbm, ⟨57, _⟩ => ⟨S_, .f32⟩
  | .hbm, ⟨58, _⟩ => ⟨S20480x2048, .f32⟩
  | .hbm, ⟨59, _⟩ => ⟨S20480x2048, .f32⟩
  | .hbm, ⟨60, _⟩ => ⟨S20480x2048, .f32⟩
  | .hbm, ⟨61, _⟩ => ⟨S20480x2048, .f32⟩
  | .hbm, ⟨62, _⟩ => ⟨S20480x2048, .bf16⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== OutProj.lean ====
abbrev S20480x2048 : Shape := ⟨2, ![20480, 2048]⟩
abbrev S2048x2048 : Shape := ⟨2, ![2048, 2048]⟩
abbrev S16x6x1x2048 : Shape := ⟨4, ![16, 6, 1, 2048]⟩
abbrev S512x2048 : Shape := ⟨2, ![512, 2048]⟩
abbrev S1x1x1x2048 : Shape := ⟨4, ![1, 1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S20480x2048, .bf16⟩
  | .hbm, ⟨1, _⟩ => ⟨S2048x2048, .f32⟩
  | .hbm, ⟨2, _⟩ => ⟨S20480x2048, .f32⟩
  | .hbm, ⟨3, _⟩ => ⟨S16x6x1x2048, .f32⟩
  | .hbm, ⟨4, _⟩ => ⟨S2048x2048, .bf16⟩
  | .hbm, ⟨5, _⟩ => ⟨S20480x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S512x2048, .f32⟩
  | .local _ .vmem, ⟨8, _⟩ => ⟨S512x2048, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c2_i32 : BitVec 32 := 2#32
  let c0_i32_7 : BitVec 32 := 0#32
  let c0_i32_8 : BitVec 32 := 0#32
  let c0_i32_9 : BitVec 32 := 0#32
  ![v20.toNat, c2_i32.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S20480x2048 : Shape := ⟨2, ![20480, 2048]⟩
abbrev S2048x2048 : Shape := ⟨2, ![2048, 2048]⟩
abbrev S16x6x1x2048 : Shape := ⟨4, ![16, 6, 1, 2048]⟩
abbrev S16x6x2048 : Shape := ⟨3, ![16, 6, 2048]⟩
abbrev S4096x2048 : Shape := ⟨2, ![4096, 2048]⟩
abbrev S16x256x2048 : Shape := ⟨3, ![16, 256, 2048]⟩
abbrev S1x1x2048 : Shape := ⟨3, ![1, 1, 2048]⟩
abbrev S1x2048 : Shape := ⟨2, ![1, 2048]⟩
abbrev S16384x2048 : Shape := ⟨2, ![16384, 2048]⟩
abbrev S8x2048x2048 : Shape := ⟨3, ![8, 2048, 2048]⟩
abbrev S8x1x2048 : Shape := ⟨3, ![8, 1, 2048]⟩
abbrev S8x2048 : Shape := ⟨2, ![8, 2048]⟩

abbrev nBuf : Space → Nat
  | .hbm => 30
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x2048, .f32⟩
  | .hbm, ⟨2, _⟩ => ⟨S20480x2048, .f32⟩
  | .hbm, ⟨3, _⟩ => ⟨S16x6x1x2048, .f32⟩
  | .hbm, ⟨4, _⟩ => ⟨S20480x2048, .f32⟩
  | .hbm, ⟨5, _⟩ => ⟨S20480x2048, .f32⟩
  | .hbm, ⟨6, _⟩ => ⟨S16x6x2048, .f32⟩
  | .hbm, ⟨7, _⟩ => ⟨S4096x2048, .f32⟩
  | .hbm, ⟨8, _⟩ => ⟨S16x256x2048, .f32⟩
  | .hbm, ⟨9, _⟩ => ⟨S1x1x2048, .f32⟩
  | .hbm, ⟨10, _⟩ => ⟨S1x2048, .f32⟩
  | .hbm, ⟨11, _⟩ => ⟨S1x1x2048, .f32⟩
  | .hbm, ⟨12, _⟩ => ⟨S4096x2048, .f32⟩
  | .hbm, ⟨13, _⟩ => ⟨S16x256x2048, .f32⟩
  | .hbm, ⟨14, _⟩ => ⟨S16x256x2048, .f32⟩
  | .hbm, ⟨15, _⟩ => ⟨S16x256x2048, .f32⟩
  | .hbm, ⟨16, _⟩ => ⟨S16x256x2048, .f32⟩
  | .hbm, ⟨17, _⟩ => ⟨S16384x2048, .f32⟩
  | .hbm, ⟨18, _⟩ => ⟨S8x2048x2048, .f32⟩
  | .hbm, ⟨19, _⟩ => ⟨S8x1x2048, .f32⟩
  | .hbm, ⟨20, _⟩ => ⟨S8x2048, .f32⟩
  | .hbm, ⟨21, _⟩ => ⟨S8x1x2048, .f32⟩
  | .hbm, ⟨22, _⟩ => ⟨S16384x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S4096x2048, .f32⟩
  | .hbm, ⟨28, _⟩ => ⟨S16384x2048, .f32⟩
  | .hbm, ⟨29, _⟩ => ⟨S20480x2048, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Gate.lean ====
abbrev S20480x10368 : Shape := ⟨2, ![20480, 10368]⟩
abbrev S1024 : Shape := ⟨1, ![1024]⟩
abbrev S8x128x128 : Shape := ⟨3, ![8, 128, 128]⟩
abbrev S8x128 : Shape := ⟨2, ![8, 128]⟩
abbrev S8x128x1 : Shape := ⟨3, ![8, 128, 1]⟩
abbrev S1x1024 : Shape := ⟨2, ![1, 1024]⟩
abbrev S20480x1024 : Shape := ⟨2, ![20480, 1024]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 9
  | .vmem => 9
  | .smem => 0
  | _ => 0

abbrev bufTy : (tb : Table) → Fin (tcTables nBuf tb) → BufTy
  | .hbm, ⟨0, _⟩ => ⟨S20480x10368, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S8x128x1, .f32⟩
  | .hbm, ⟨5, _⟩ => ⟨S8x128x128, .f32⟩
  | .hbm, ⟨6, _⟩ => ⟨S1x1024, .f32⟩
  | .hbm, ⟨7, _⟩ => ⟨S8x128x128, .bf16⟩
  | .hbm, ⟨8, _⟩ => ⟨S20480x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128x128, .bf16⟩
  | .local _ .vmem, ⟨6, _⟩ => ⟨S8x128x128, .f32⟩
  | .local _ .vmem, ⟨7, _⟩ => ⟨S256x1024, .bf16⟩
  | .local _ .vmem, ⟨8, _⟩ => ⟨S256x1024, .bf16⟩
  | _, _ => ⟨S20480x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRefIdeal.lean ====
abbrev S20480x10368 : Shape := ⟨2, ![20480, 10368]⟩
abbrev S1024 : Shape := ⟨1, ![1024]⟩
abbrev S8x128x128 : Shape := ⟨3, ![8, 128, 128]⟩
abbrev S8x128 : Shape := ⟨2, ![8, 128]⟩
abbrev S20480x1024 : Shape := ⟨2, ![20480, 1024]⟩
abbrev S_ : Shape := ⟨0, ![]⟩
abbrev S20480 : Shape := ⟨1, ![20480]⟩
abbrev S20480x1 : Shape := ⟨2, ![20480, 1]⟩
abbrev S1x1024 : Shape := ⟨2, ![1, 1024]⟩
abbrev S160x128x8x128 : Shape := ⟨4, ![160, 128, 8, 128]⟩
abbrev S8x160x128x128 : Shape := ⟨4, ![8, 160, 128, 128]⟩
abbrev S128x8 : Shape := ⟨2, ![128, 8]⟩
abbrev S1x128x8x1 : Shape := ⟨4, ![1, 128, 8, 1]⟩

abbrev nBuf : Space → Nat
  | .hbm => 66
  | .vmem => 0
  | .smem => 0
  | _ => 0

abbrev bufTy : (tb : Table) → Fin (tcTables nBuf tb) → BufTy
  | .hbm, ⟨0, _⟩ => ⟨S20480x10368, .f32⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S20480x1024, .f32⟩
  | .hbm, ⟨5, _⟩ => ⟨S20480x1024, .f32⟩
  | .hbm, ⟨6, _⟩ => ⟨S20480x1024, .f32⟩
  | .hbm, ⟨7, _⟩ => ⟨S_, .f32⟩
  | .hbm, ⟨8, _⟩ => ⟨S20480x1024, .f32⟩
  | .hbm, ⟨9, _⟩ => ⟨S20480x1024, .f32⟩
  | .hbm, ⟨10, _⟩ => ⟨S20480x1024, .f32⟩
  | .hbm, ⟨11, _⟩ => ⟨S_, .f32⟩
  | .hbm, ⟨12, _⟩ => ⟨S20480x1024, .f32⟩
  | .hbm, ⟨13, _⟩ => ⟨S20480x1024, .f32⟩
  | .hbm, ⟨14, _⟩ => ⟨S20480x1024, .f32⟩
  | .hbm, ⟨15, _⟩ => ⟨S_, .f32⟩
  | .hbm, ⟨16, _⟩ => ⟨S20480x1024, .f32⟩
  | .hbm, ⟨17, _⟩ => ⟨S20480x1024, .f32⟩
  | .hbm, ⟨18, _⟩ => ⟨S_, .f32⟩
  | .hbm, ⟨19, _⟩ => ⟨S20480x1024, .f32⟩
  | .hbm, ⟨20, _⟩ => ⟨S20480x1024, .f32⟩
  | .hbm, ⟨21, _⟩ => ⟨S20480x1024, .f32⟩
  | .hbm, ⟨22, _⟩ => ⟨S20480x1024, .f32⟩
  | .hbm, ⟨23, _⟩ => ⟨S20480x1024, .f32⟩
  | .hbm, ⟨24, _⟩ => ⟨S20480x1024, .f32⟩
  | .hbm, ⟨25, _⟩ => ⟨S_, .f32⟩
  | .hbm, ⟨26, _⟩ => ⟨S20480x1024, .f32⟩
  | .hbm, ⟨27, _⟩ => ⟨S20480x1024, .f32⟩
  | .hbm, ⟨28, _⟩ => ⟨S20480x1024, .f32⟩
  | .hbm, ⟨29, _⟩ => ⟨S_, .f32⟩
  | .hbm, ⟨30, _⟩ => ⟨S20480x1024, .f32⟩
  | .hbm, ⟨31, _⟩ => ⟨S20480x1024, .f32⟩
  | .hbm, ⟨32, _⟩ => ⟨S20480x1024, .f32⟩
  | .hbm, ⟨33, _⟩ => ⟨S_, .f32⟩
  | .hbm, ⟨34, _⟩ => ⟨S20480x1024, .f32⟩
  | .hbm, ⟨35, _⟩ => ⟨S20480x1024, .f32⟩
  | .hbm, ⟨36, _⟩ => ⟨S_, .f32⟩
  | .hbm, ⟨37, _⟩ => ⟨S20480x1024, .f32⟩
  | .hbm, ⟨38, _⟩ => ⟨S20480x1024, .f32⟩
  | .hbm, ⟨39, _⟩ => ⟨S20480x1024, .f32⟩
  | .hbm, ⟨40, _⟩ => ⟨S20480x1024, .f32⟩
  | .hbm, ⟨41, _⟩ => ⟨S_, .f32⟩
  | .hbm, ⟨42, _⟩ => ⟨S20480, .f32⟩
  | .hbm, ⟨43, _⟩ => ⟨S20480x1, .f32⟩
  | .hbm, ⟨44, _⟩ => ⟨S_, .f32⟩
  | .hbm, ⟨45, _⟩ => ⟨S20480x1, .f32⟩
  | .hbm, ⟨46, _⟩ => ⟨S20480x1, .f32⟩
  | .hbm, ⟨47, _⟩ => ⟨S_, .f32⟩
  | .hbm, ⟨48, _⟩ => ⟨S20480x1, .f32⟩
  | .hbm, ⟨49, _⟩ => ⟨S20480x1, .f32⟩
  | .hbm, ⟨50, _⟩ => ⟨S20480x1, .f32⟩
  | .hbm, ⟨51, _⟩ => ⟨S20480x1024, .f32⟩
  | .hbm, ⟨52, _⟩ => ⟨S20480x1024, .f32⟩
  | .hbm, ⟨53, _⟩ => ⟨S1x1024, .f32⟩
  | .hbm, ⟨54, _⟩ => ⟨S20480x1024, .f32⟩
  | .hbm, ⟨55, _⟩ => ⟨S20480x1024, .f32⟩
  | .hbm, ⟨56, _⟩ => ⟨S160x128x8x128, .f32⟩
  | .hbm, ⟨57, _⟩ => ⟨S8x160x128x128, .f32⟩
  | .hbm, ⟨58, _⟩ => ⟨S160x128x8x128, .f32⟩
  | .hbm, ⟨59, _⟩ => ⟨S128x8, .f32⟩
  | .hbm, ⟨60, _⟩ => ⟨S1x128x8x1, .f32⟩
  | .hbm, ⟨61, _⟩ => ⟨S160x128x8x128, .f32⟩
  | .hbm, ⟨62, _⟩ => ⟨S160x128x8x128, .f32⟩
  | .hbm, ⟨63, _⟩ => ⟨S20480x1024, .f32⟩
  | .hbm, ⟨64, _⟩ => ⟨S20480x1024, .f32⟩
  | .hbm, ⟨65, _⟩ => ⟨S20480x1024, .bf16⟩
  | _, _ => ⟨S20480x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Norm.lean ====
abbrev S20480x2048 : Shape := ⟨2, ![20480, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S1x2048, .f32⟩
  | .hbm, ⟨3, _⟩ => ⟨S20480x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S20480x2048 : Shape := ⟨2, ![20480, 2048]⟩
abbrev S2048 : Shape := ⟨1, ![2048]⟩
abbrev S_ : Shape := ⟨0, ![]⟩
abbrev S20480 : Shape := ⟨1, ![20480]⟩
abbrev S20480x1 : Shape := ⟨2, ![20480, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S20480x2048, .f32⟩
  | .hbm, ⟨3, _⟩ => ⟨S_, .f32⟩
  | .hbm, ⟨4, _⟩ => ⟨S20480, .f32⟩
  | .hbm, ⟨5, _⟩ => ⟨S20480x1, .f32⟩
  | .hbm, ⟨6, _⟩ => ⟨S_, .f32⟩
  | .hbm, ⟨7, _⟩ => ⟨S20480x1, .f32⟩
  | .hbm, ⟨8, _⟩ => ⟨S20480x1, .f32⟩
  | .hbm, ⟨9, _⟩ => ⟨S_, .f32⟩
  | .hbm, ⟨10, _⟩ => ⟨S20480x1, .f32⟩
  | .hbm, ⟨11, _⟩ => ⟨S20480x1, .f32⟩
  | .hbm, ⟨12, _⟩ => ⟨S20480x1, .f32⟩
  | .hbm, ⟨13, _⟩ => ⟨S20480x2048, .f32⟩
  | .hbm, ⟨14, _⟩ => ⟨S20480x2048, .f32⟩
  | .hbm, ⟨15, _⟩ => ⟨S1x2048, .f32⟩
  | .hbm, ⟨16, _⟩ => ⟨S20480x2048, .f32⟩
  | .hbm, ⟨17, _⟩ => ⟨S20480x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.DNHead.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DN

open Cert.KernelIdeal Cert.KernelIdeal.Gen Idealize.ShloMosaic Idealize.ShloMosaic.TcCoe Idealize.SL.Sem

/-! ## One head of the window, once for all eight -/

/-- The decay between two tokens, zero where the column comes later. -/
def hDec (gcc : FVec Ideal S256x1 .f32) (gcr : FVec Ideal S1x256 .f32) (incl : FVec Ideal S256x256 .f32) :
    FVec Ideal S256x256 .f32 :=
  exp (select (cmpf .ogt incl (broadcast S256x256 (Scalar.ofBits .f32 0x00000000#32)))
    (subf (broadcastTo S256x256 gcc broadcasts_S256x1_S256x256) (broadcastTo S256x256 gcr broadcasts_S1x256_S256x256))
    (broadcast S256x256 (Named.named κ "masked" 0xF149F2CA#32)))

/-- The products of the rows of two arrays. -/
def hGram (x y : FVec Ideal S256x128 .f32) : FVec Ideal S256x256 .f32 :=
  matmul dot_S256x128_S256x128_S256x256_1_1_0_0_n_n none (truncf .bf16 x bitsLt_bf16_f32) (truncf .bf16 y bitsLt_bf16_f32)
    (constant S256x256 .f32 0x00000000#32)

/-- The strictly lower matrix whose inverse, with the identity added, the window needs. -/
def hMat (bcol : FVec Ideal S256x1 .f32) (k : FVec Ideal S256x128 .f32) (dec before : FVec Ideal S256x256 .f32) :
    FVec Ideal S256x256 .f32 :=
  mulf (mulf (broadcastTo S256x256 bcol broadcasts_S256x1_S256x256) (hGram k k)) (mulf dec before)

/-- A product of two square matrices. -/
def hMul (x y : FVec Ideal S256x256 .f32) : FVec Ideal S256x256 .f32 :=
  matmul dot_S256x256_S256x256_S256x256_1_0_0_1_n_n none (truncf .bf16 x bitsLt_bf16_f32) (truncf .bf16 y bitsLt_bf16_f32)
    (constant S256x256 .f32 0x00000000#32)

/-- One level of the inversion. -/
def hLev (M t : FVec Ideal S256x256 .f32) (l : FVec Ideal S1x256x256 .f32) : FVec Ideal S256x256 .f32 :=
  subf t (hMul (hMul t (mulf M (shapeCast S256x256 l shapeCasts_S1x256x256_S256x256))) t)

/-- The level masks, one after the other. -/
def hMask (l : ℕ) (inb : ∀ a, (![l, 0, 0] : Fin 3 → ℕ) a + (![1, 256, 256] : Fin 3 → ℕ) a ≤ S10x256x256.size a)
    (msk : FVec Ideal S10x256x256 .f32) : FVec Ideal S1x256x256 .f32 :=
  View.ld (Val := Elt Ideal) (e' := .f32) msk (Rect.unit (s := S10x256x256) ![l, 0, 0] ![1, 256, 256] inb)

/-- The identity as the kernel makes it. -/
def hEye (msk : FVec Ideal S10x256x256 .f32) : FVec Ideal S256x256 .f32 :=
  subf (shapeCast S256x256 (hMask 1 inb_S10x256x256_S1x256x256_1_0_0 msk) shapeCasts_S1x256x256_S256x256)
    (shapeCast S256x256 (hMask 0 inb_S10x256x256_S1x256x256_0_0_0 msk) shapeCasts_S1x256x256_S256x256)

/-- The first level, from the identity. -/
def hFst (msk : FVec Ideal S10x256x256 .f32) (M : FVec Ideal S256x256 .f32) : FVec Ideal S256x256 .f32 :=
  subf (hEye msk) (mulf M (shapeCast S256x256 (hMask 2 inb_S10x256x256_S1x256x256_2_0_0 msk) shapeCasts_S1x256x256_S256x256))

/-- The inverse, level by level. -/
def hInv (msk : FVec Ideal S10x256x256 .f32) (M : FVec Ideal S256x256 .f32) : FVec Ideal S256x256 .f32 :=
  hLev M (hLev M (hLev M (hLev M (hLev M (hLev M (hLev M (hFst msk M)
    (hMask 3 inb_S10x256x256_S1x256x256_3_0_0 msk))
    (hMask 4 inb_S10x256x256_S1x256x256_4_0_0 msk))
    (hMask 5 inb_S10x256x256_S1x256x256_5_0_0 msk))
    (hMask 6 inb_S10x256x256_S1x256x256_6_0_0 msk))
    (hMask 7 inb_S10x256x256_S1x256x256_7_0_0 msk))
    (hMask 8 inb_S10x256x256_S1x256x256_8_0_0 msk))
    (hMask 9 inb_S10x256x256_S1x256x256_9_0_0 msk)

/-- The values scaled and the keys scaled and decayed, side by side, through the inverse. -/
def hSol (T : FVec Ideal S256x256 .f32) (gcc bcol : FVec Ideal S256x1 .f32) (k v : FVec Ideal S256x128 .f32) :
    FVec Ideal S256x256 .f32 :=
  hMul T (concatenate S256x256 1
    [⟨S256x128, mulf v (broadcastTo S256x128 bcol broadcasts_S256x1_S256x128)⟩,
     ⟨S256x128, mulf k (broadcastTo S256x128 (mulf bcol (exp gcc)) broadcasts_S256x1_S256x128)⟩]
    concatenates_S256x128_S256x128_S256x256_d1)

/-- A product with the state. -/
def hThru (x : FVec Ideal S256x128 .f32) (S : FVec Ideal S128x128 .f32) : FVec Ideal S256x128 .f32 :=
  matmul dot_S256x128_S128x128_S256x128_1_0_0_1_n_n none (truncf .bf16 x bitsLt_bf16_f32) (truncf .bf16 S bitsLt_bf16_f32)
    (constant S256x128 .f32 0x00000000#32)

/-- What each token adds to the state, along its key. -/
def hNew (sol : FVec Ideal S256x256 .f32) (S : FVec Ideal S128x128 .f32) : FVec Ideal S256x128 .f32 :=
  subf (extractStridedSlice S256x128 ![0, 0] sol slices_S256x256_o0_0_S256x128)
    (hThru (extractStridedSlice S256x128 ![0, 128] sol slices_S256x256_o0_128_S256x128) S)

/-- The window's outputs for the head. -/
def hOut (dec : FVec Ideal S256x256 .f32) (gcc : FVec Ideal S256x1 .f32) (q k : FVec Ideal S256x128 .f32)
    (S : FVec Ideal S128x128 .f32) (vn : FVec Ideal S256x128 .f32) : FVec Ideal S256x128 .f32 :=
  addf (hThru (mulf q (broadcastTo S256x128 (exp gcc) broadcasts_S256x1_S256x128)) S)
    (matmul dot_S256x256_S256x128_S256x128_1_0_0_1_n_n none (truncf .bf16 (mulf (hGram q k) dec) bitsLt_bf16_f32)
      (truncf .bf16 vn bitsLt_bf16_f32) (constant S256x128 .f32 0x00000000#32))

/-- The state the window leaves. -/
def hState (gcc : FVec Ideal S256x1 .f32) (k : FVec Ideal S256x128 .f32) (S : FVec Ideal S128x128 .f32)
    (vn : FVec Ideal S256x128 .f32) : FVec Ideal S128x128 .f32 :=
  addf (mulf S (broadcastTo S128x128 (exp (extractStridedSlice S1x1 ![255, 0] gcc slices_S256x1_o255_0_S1x1)) broadcasts_S1x1_S128x128))
    (matmul dot_S256x128_S256x128_S128x128_0_0_1_1_n_n none
      (truncf .bf16 (mulf k (broadcastTo S256x128 (exp (subf (broadcastTo S256x1
        (extractStridedSlice S1x1 ![255, 0] gcc slices_S256x1_o255_0_S1x1) broadcasts_S1x1_S256x1) gcc)) broadcasts_S256x1_S256x128)) bitsLt_bf16_f32)
      (truncf .bf16 vn bitsLt_bf16_f32) (constant S128x128 .f32 0x00000000#32))

/-! ## The head's pieces of the window's blocks -/

/-- The blocks a window reads: queries, keys, values, the gate columns, the two gate parameters and the three tables. -/
structure Blk where
  q : FVec Ideal S256x1024 .f32
  k : FVec Ideal S256x1024 .f32
  v : FVec Ideal S256x1024 .f32
  sm : FVec Ideal S256x128 .f32
  pa : FVec Ideal S1x128 .f32
  pdt : FVec Ideal S1x128 .f32
  msk : FVec Ideal S10x256x256 .f32
  cc : FVec Ideal S256x256 .f32
  cr : FVec Ideal S256x256 .f32

/-- Where a head lies: its number, its lane among the decays and its first column, each within its array. -/
structure Hd where
  h : ℕ
  a : ℕ
  o : ℕ
  inbCol : ∀ x, (![0, o] : Fin 2 → ℕ) x + (![256, 128] : Fin 2 → ℕ) x ≤ S256x1024.size x
  inbSt : ∀ x, (![h, 0, 0] : Fin 3 → ℕ) x + (![1, 128, 128] : Fin 3 → ℕ) x ≤ S8x128x128.size x
  slG : S256x128.Slices ![0, a] S256x1
  slB : S256x128.Slices ![0, h] S256x1
  slR : S128x256.Slices ![a, 0] S1x256

/-- The head's columns. -/
def pCol (x : FVec Ideal S256x1024 .f32) (h : Hd) : FVec Ideal S256x128 .f32 :=
  View.ld (Val := Elt Ideal) (e' := .f32) x (Rect.unit (s := S256x1024) ![0, h.o] ![256, 128] h.inbCol)

/-- The head's summed decay, down a column. -/
def pGcc (X : Blk) (h : Hd) : FVec Ideal S256x1 .f32 :=
  extractStridedSlice S256x1 ![0, h.a] (k0_pay10 (k0_pay4 X.sm X.pa X.pdt) X.cc) h.slG

/-- The head's summed decay, along a row. -/
def pGcr (X : Blk) (h : Hd) : FVec Ideal S1x256 .f32 :=
  extractStridedSlice S1x256 ![h.a, 0] (k0_pay11 (k0_pay6 X.sm X.pa X.pdt) X.cr) h.slR

/-- The head's writing strength. -/
def pBeta (X : Blk) (h : Hd) : FVec Ideal S256x1 .f32 :=
  extractStridedSlice S256x1 ![0, h.h] (k0_pay5 X.sm) h.slB

/-- The head's decays between tokens. -/
def pDec (X : Blk) (h : Hd) : FVec Ideal S256x256 .f32 :=
  hDec (pGcc X h) (pGcr X h)
    (shapeCast S256x256 (hMask 1 inb_S10x256x256_S1x256x256_1_0_0 X.msk) shapeCasts_S1x256x256_S256x256)

/-- The head's strictly lower matrix. -/
def pMat (X : Blk) (h : Hd) : FVec Ideal S256x256 .f32 :=
  hMat (pBeta X h) (pCol X.k h) (pDec X h)
    (shapeCast S256x256 (hMask 0 inb_S10x256x256_S1x256x256_0_0_0 X.msk) shapeCasts_S1x256x256_S256x256)

/-- The head's state before the window. -/
def pSt (S : FVec Ideal S8x128x128 .f32) (h : Hd) : FVec Ideal S128x128 .f32 :=
  shapeCast S128x128 (View.ld (Val := Elt Ideal) (e' := .f32) S (Rect.unit (s := S8x128x128) ![h.h, 0, 0] ![1, 128, 128] h.inbSt)
    : FVec Ideal S1x128x128 .f32) shapeCasts_S1x128x128_S128x128

/-- What the head's tokens add. -/
def pNew (X : Blk) (S : FVec Ideal S8x128x128 .f32) (h : Hd) : FVec Ideal S256x128 .f32 :=
  hNew (hSol (hInv X.msk (pMat X h)) (pGcc X h) (pBeta X h) (pCol X.k h) (pCol X.v h)) (pSt S h)

/-- The head's piece of the outputs. -/
def oPiece (X : Blk) (S : FVec Ideal S8x128x128 .f32) (h : Hd) : View.Piece (Elt Ideal) S256x1024 .f32 :=
  ⟨Rect.unit (s := S256x1024) ![0, h.o] ![256, 128] h.inbCol,
    hOut (pDec X h) (pGcc X h) (pCol X.q h) (pCol X.k h) (pSt S h) (pNew X S h)⟩

/-- The head's piece of the state. -/
def sPiece (X : Blk) (S : FVec Ideal S8x128x128 .f32) (h : Hd) : View.Piece (Elt Ideal) S8x128x128 .f32 :=
  ⟨Rect.unit (s := S8x128x128) ![h.h, 0, 0] ![1, 128, 128] h.inbSt,
    shapeCast S1x128x128 (hState (pGcc X h) (pCol X.k h) (pSt S h) (pNew X S h)) shapeCasts_S128x128_S1x128x128⟩

/-- Head 0. -/
abbrev hd0 : Hd := ⟨0, 16, 0, by decide, by decide, by decide, by decide, by decide⟩
/-- Head 1. -/
abbrev hd1 : Hd := ⟨1, 17, 128, by decide, by decide, by decide, by decide, by decide⟩
/-- Head 2. -/
abbrev hd2 : Hd := ⟨2, 18, 256, by decide, by decide, by decide, by decide, by decide⟩
/-- Head 3. -/
abbrev hd3 : Hd := ⟨3, 19, 384, by decide, by decide, by decide, by decide, by decide⟩
/-- Head 4. -/
abbrev hd4 : Hd := ⟨4, 20, 512, by decide, by decide, by decide, by decide, by decide⟩
/-- Head 5. -/
abbrev hd5 : Hd := ⟨5, 21, 640, by decide, by decide, by decide, by decide, by decide⟩
/-- Head 6. -/
abbrev hd6 : Hd := ⟨6, 22, 768, by decide, by decide, by decide, by decide, by decide⟩
/-- Head 7. -/
abbrev hd7 : Hd := ⟨7, 23, 896, by decide, by decide, by decide, by decide, by decide⟩

/-- A window's outputs from its blocks and the state before. -/
def winOut (X : Blk) (S : FVec Ideal S8x128x128 .f32) : FVec Ideal S256x1024 .f32 :=
  View.canon [oPiece X S hd7, oPiece X S hd6, oPiece X S hd5, oPiece X S hd4, oPiece X S hd3, oPiece X S hd2, oPiece X S hd1, oPiece X S hd0]

/-- The state after a window. -/
def winSt (X : Blk) (S : FVec Ideal S8x128x128 .f32) : FVec Ideal S8x128x128 .f32 :=
  View.canon [sPiece X S hd7, sPiece X S hd6, sPiece X S hd5, sPiece X S hd4, sPiece X S hd3, sPiece X S hd2, sPiece X S hd1, sPiece X S hd0]

/-- Earlier pieces change nothing where later ones lie. -/
theorem canon_append_of_cover {S : Shape} {e : EltTy} (M : List (View.Piece (Elt Ideal) S e)) :
    ∀ (L : List (View.Piece (Elt Ideal) S e)) (y : S.Idx), (∃ p ∈ L, y ∈ p.1.set) →
      View.canon (L ++ M) y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_of_cover M L y ?_
      obtain ⟨q, hq, hyq⟩ := h
      rcases List.mem_cons.mp hq with rfl | hq'
      · exact absurd hyq hm
      · exact ⟨q, hq', hyq⟩

/-- The heads' pieces of the state, last written first. -/
abbrev sList (X : Blk) (S : FVec Ideal S8x128x128 .f32) : List (View.Piece (Elt Ideal) S8x128x128 .f32) :=
  [sPiece X S hd7, sPiece X S hd6, sPiece X S hd5, sPiece X S hd4, sPiece X S hd3, sPiece X S hd2, sPiece X S hd1, sPiece X S hd0]

/-- The heads' pieces cover the state. -/
theorem sList_cover (X : Blk) (S : FVec Ideal S8x128x128 .f32) (y : S8x128x128.Idx) : ∃ p ∈ sList X S, y ∈ p.1.set := by
  have hc : ∀ h : Hd, (y 0 : ℕ) = h.h → y ∈ (sPiece X S h).1.set := fun h e => by
    refine (Rect.mem_set_unit (inb := h.inbSt)).mpr fun a => ?_
    have h1 : (y 1 : ℕ) < 128 := (y 1).isLt
    have h2 : (y 2 : ℕ) < 128 := (y 2).isLt
    fin_cases a
    · show h.h ≤ (y 0 : ℕ) ∧ (y 0 : ℕ) < h.h + 1
      omega
    · show 0 ≤ (y 1 : ℕ) ∧ (y 1 : ℕ) < 0 + 128
      omega
    · show 0 ≤ (y 2 : ℕ) ∧ (y 2 : ℕ) < 0 + 128
      omega
  have h0 : (y 0 : ℕ) < 8 := (y 0).isLt
  have : (y 0 : ℕ) = 0 ∨ (y 0 : ℕ) = 1 ∨ (y 0 : ℕ) = 2 ∨ (y 0 : ℕ) = 3 ∨ (y 0 : ℕ) = 4 ∨ (y 0 : ℕ) = 5 ∨ (y 0 : ℕ) = 6 ∨ (y 0 : ℕ) = 7 := by omega
  rcases this with e | e | e | e | e | e | e | e
  · exact ⟨sPiece X S hd0, by simp, hc hd0 e⟩
  · exact ⟨sPiece X S hd1, by simp, hc hd1 e⟩
  · exact ⟨sPiece X S hd2, by simp, hc hd2 e⟩
  · exact ⟨sPiece X S hd3, by simp, hc hd3 e⟩
  · exact ⟨sPiece X S hd4, by simp, hc hd4 e⟩
  · exact ⟨sPiece X S hd5, by simp, hc hd5 e⟩
  · exact ⟨sPiece X S hd6, by simp, hc hd6 e⟩
  · exact ⟨sPiece X S hd7, by simp, hc hd7 e⟩

/-- The state after a window does not depend on what was stored before the heads' pieces. -/
theorem winSt_drop (X : Blk) (S : FVec Ideal S8x128x128 .f32) (p : View.Piece (Elt Ideal) S8x128x128 .f32) :
    View.canon [sPiece X S hd7, sPiece X S hd6, sPiece X S hd5, sPiece X S hd4, sPiece X S hd3, sPiece X S hd2,
      sPiece X S hd1, sPiece X S hd0, p] = winSt X S :=
  funext fun y => canon_append_of_cover [p] (sList X S) y (sList_cover X S y)

/-- Two arrays side by side, each replaced by an equal one. -/
@[local congr] theorem beside_congr {s₁ s₂ t : Shape} {a : Fin t.rank} {x x' : s₁.Idx → EReal} {y y' : s₂.Idx → EReal}
    {h : Shape.Concatenates ([(⟨s₁, x⟩ : (s : Shape) × (s.Idx → EReal)), ⟨s₂, y⟩].map (·.1)) t a}
    (hx : x = x') (hy : y = y') :
    concatenate t a [⟨s₁, x⟩, ⟨s₂, y⟩] h = concatenate t a [⟨s₁, x'⟩, ⟨s₂, y'⟩] h := by
  subst hx hy; rfl

section
variable
  (c : Dev nD) (i : grid0.Coords) (arg2 : Memref sig .tc .vmem S256x1024 .f32) (harg2 : arg2.IsWhole)
  (arg3 : Memref sig .tc .vmem S256x1024 .f32) (harg3 : arg3.IsWhole) (arg4 : Memref sig .tc .vmem S256x1024 .f32)
  (harg4 : arg4.IsWhole) (arg5 : Memref sig .tc .vmem S256x128 .f32) (harg5 : arg5.IsWhole)
  (arg6 : Memref sig .tc .vmem S1x8x128x128 .f32) (harg6 : arg6.IsWhole) (arg7 : Memref sig .tc .vmem S1x128 .f32)
  (harg7 : arg7.IsWhole) (arg8 : Memref sig .tc .vmem S1x128 .f32) (harg8 : arg8.IsWhole)
  (arg9 : Memref sig .tc .vmem S10x256x256 .f32) (harg9 : arg9.IsWhole) (arg10 : Memref sig .tc .vmem S256x256 .f32)
  (harg10 : arg10.IsWhole) (arg11 : Memref sig .tc .vmem S256x256 .f32) (harg11 : arg11.IsWhole)
  (arg12 : Memref sig .tc .vmem S256x1024 .f32) (harg12 : arg12.IsWhole)
  (arg13 : Memref sig .tc .vmem S1x8x128x128 .f32) (harg13 : arg13.IsWhole)
  (arg14 : Memref sig .tc .vmem S8x128x128 .f32) (harg14 : arg14.IsWhole)
  (x0 : Vec Ideal S256x1024 .f32) (x1 : Vec Ideal S256x1024 .f32) (x2 : Vec Ideal S256x1024 .f32)
  (x3 : Vec Ideal S256x128 .f32) (x4 : Vec Ideal S1x8x128x128 .f32) (x5 : Vec Ideal S1x128 .f32)
  (x6 : Vec Ideal S1x128 .f32) (x7 : Vec Ideal S10x256x256 .f32) (x8 : Vec Ideal S256x256 .f32)
  (x9 : Vec Ideal S256x256 .f32)
  (xs0 : Vec Ideal S8x128x128 .f32)

set_option maxHeartbeats 1000000 in
/-- The state the first window leaves. -/
theorem st_A (hc0 : cond0_0 i) (hc1 : ¬cond0_1 i) :
    sout0_A_0
      c i arg2 harg2 arg3 harg3 arg4 harg4 arg5 harg5 arg6 harg6 arg7 harg7 arg8 harg8 arg9 harg9 arg10 harg10 arg11
      harg11 arg12 harg12 arg13 harg13 arg14 harg14 hc0 hc1
      x0 x1 x2 x3 x4 x5 x6 x7 x8 x9 = winSt ⟨x0, x1, x2, x3, x5, x6, x7, x8, x9⟩ (k0_pay3 (F := Ideal) x4) := by
  unfold sout0_A_0
  frame_open
  simp (disch := decide) only [↓ View.readCov_skip, ↓ View.readCov_cons_toLoadRect, ↓ View.readCov_fill]
  frame_out
  refine Eq.trans ?_ (winSt_drop ⟨x0, x1, x2, x3, x5, x6, x7, x8, x9⟩ (k0_pay3 (F := Ideal) x4)
    ⟨Rect.unit (s := S8x128x128) ![0, 0, 0] ![8, 128, 128] inb_S8x128x128_S8x128x128_0_0_0, k0_pay3 (F := Ideal) x4⟩)
  rfl

set_option maxHeartbeats 1000000 in
/-- The outputs of the first window. -/
theorem out_A (hc0 : cond0_0 i) (hc1 : ¬cond0_1 i) :
    out0_A_10
      c i arg2 harg2 arg3 harg3 arg4 harg4 arg5 harg5 arg6 harg6 arg7 harg7 arg8 harg8 arg9 harg9 arg10 harg10 arg11
      harg11 arg12 harg12 arg13 harg13 arg14 harg14 hc0 hc1
      x0 x1 x2 x3 x4 x5 x6 x7 x8 x9 = winOut ⟨x0, x1, x2, x3, x5, x6, x7, x8, x9⟩ (k0_pay3 (F := Ideal) x4) := by
  unfold out0_A_10
  frame_open
  simp (disch := decide) only [↓ View.readCov_skip, ↓ View.readCov_cons_toLoadRect, ↓ View.readCov_fill]
  frame_out
  rfl

set_option maxHeartbeats 1000000 in
/-- The state a window in the middle leaves. -/
theorem st_B (hc0 : ¬cond0_0 i) (hc1 : ¬cond0_1 i) :
    sout0_B_0
      c i arg2 harg2 arg3 harg3 arg4 harg4 arg5 harg5 arg6 harg6 arg7 harg7 arg8 harg8 arg9 harg9 arg10 harg10 arg11
      harg11 arg12 harg12 arg13 harg13 arg14 harg14 hc0 hc1
      x0 x1 x2 x3 x4 x5 x6 x7 x8 x9 xs0 = winSt ⟨x0, x1, x2, x3, x5, x6, x7, x8, x9⟩ xs0 := by
  unfold sout0_B_0
  frame_open
  simp (disch := decide) only [↓ View.readCov_skip, ↓ View.readCov_cons_toLoadRect, ↓ View.readCov_fill]
  frame_out
  rfl

set_option maxHeartbeats 1000000 in
/-- The outputs of a window in the middle. -/
theorem out_B (hc0 : ¬cond0_0 i) (hc1 : ¬cond0_1 i) :
    out0_B_10
      c i arg2 harg2 arg3 harg3 arg4 harg4 arg5 harg5 arg6 harg6 arg7 harg7 arg8 harg8 arg9 harg9 arg10 harg10 arg11
      harg11 arg12 harg12 arg13 harg13 arg14 harg14 hc0 hc1
      x0 x1 x2 x3 x4 x5 x6 x7 x8 x9 xs0 = winOut ⟨x0, x1, x2, x3, x5, x6, x7, x8, x9⟩ xs0 := by
  unfold out0_B_10
  frame_open
  simp (disch := decide) only [↓ View.readCov_skip, ↓ View.readCov_cons_toLoadRect, ↓ View.readCov_fill]
  frame_out
  rfl

set_option maxHeartbeats 1000000 in
/-- The state the last window leaves. -/
theorem st_C (hc0 : ¬cond0_0 i) (hc1 : cond0_1 i) :
    sout0_C_0
      c i arg2 harg2 arg3 harg3 arg4 harg4 arg5 harg5 arg6 harg6 arg7 harg7 arg8 harg8 arg9 harg9 arg10 harg10 arg11
      harg11 arg12 harg12 arg13 harg13 arg14 harg14 hc0 hc1
      x0 x1 x2 x3 x4 x5 x6 x7 x8 x9 xs0 = winSt ⟨x0, x1, x2, x3, x5, x6, x7, x8, x9⟩ xs0 := by
  unfold sout0_C_0
  frame_open
  simp (disch := decide) only [↓ View.readCov_skip, ↓ View.readCov_cons_toLoadRect, ↓ View.readCov_fill]
  frame_out
  rfl

set_option maxHeartbeats 1000000 in
/-- The outputs of the last window. -/
theorem out_C (hc0 : ¬cond0_0 i) (hc1 : cond0_1 i) :
    out0_C_10
      c i arg2 harg2 arg3 harg3 arg4 harg4 arg5 harg5 arg6 harg6 arg7 harg7 arg8 harg8 arg9 harg9 arg10 harg10 arg11
      harg11 arg12 harg12 arg13 harg13 arg14 harg14 hc0 hc1
      x0 x1 x2 x3 x4 x5 x6 x7 x8 x9 xs0 = winOut ⟨x0, x1, x2, x3, x5, x6, x7, x8, x9⟩ xs0 := by
  unfold out0_C_10
  frame_open
  simp (disch := decide) only [↓ View.readCov_skip, ↓ View.readCov_cons_toLoadRect, ↓ View.readCov_fill]
  frame_out
  rfl

set_option maxHeartbeats 1000000 in
/-- The state handed back after the last window. -/
theorem fin_C (hc0 : ¬cond0_0 i) (hc1 : cond0_1 i) :
    out0_C_11
      c i arg2 harg2 arg3 harg3 arg4 harg4 arg5 harg5 arg6 harg6 arg7 harg7 arg8 harg8 arg9 harg9 arg10 harg10 arg11
      harg11 arg12 harg12 arg13 harg13 arg14 harg14 hc0 hc1
      x0 x1 x2 x3 x4 x5 x6 x7 x8 x9 xs0 = k0_pay2 (F := Ideal) (winSt ⟨x0, x1, x2, x3, x5, x6, x7, x8, x9⟩ xs0) := by
  unfold out0_C_11
  frame_open
  simp (disch := decide) only [↓ View.readCov_skip, ↓ View.readCov_cons_toLoadRect, ↓ View.readCov_fill]
  frame_out
  refine congrArg (k0_pay2 (F := Ideal)) ?_
  refine Eq.trans (b := arg14.view.readCov (sList ⟨x0, x1, x2, x3, x5, x6, x7, x8, x9⟩ xs0)
    (Rect.unit ![0, 0, 0] ![8, 128, 128] inb_S8x128x128_S8x128x128_0_0_0).toLoadRect) rfl ?_
  exact (View.readCov_eq_canon_ld _ _ _ (sList_cover _ _)).trans
    (View.ld_unit_zero (by funext a; fin_cases a <;> rfl) inb_S8x128x128_S8x128x128_0_0_0 _)

end

/-! ## The points -/

variable (m : (ℓ : Loc nD τ sig) → Buf (Elt Ideal) ℓ)

/-- The blocks of a point. -/
def blk (c : Dev nD) (t : Fin cfg0.N) : Blk :=
  ⟨iblk m c 0 t, iblk m c 1 t, iblk m c 2 t, iblk m c 3 t, iblk m c 5 t, iblk m c 6 t, iblk m c 7 t, iblk m c 8 t, iblk m c 9 t⟩

/-- The first window of a sequence starts from the given state. -/
theorem at_first (c : Dev nD) (t : Fin cfg0.N) (h0 : t.val % 8 = 0) :
    (outsAt0 m c t.val t.isLt).1 = winOut (blk m c t) (k0_pay3 (F := Ideal) (iblk m c 4 t)) ∧
    (outsAt0 m c t.val t.isLt).2.2 = winSt (blk m c t) (k0_pay3 (F := Ideal) (iblk m c 4 t)) := by
  rw [outsAt0_A m c t h0 (by omega)]
  dsimp only [blk]
  exact ⟨out_A .., st_A ..⟩

/-- Each further window starts from the state the one before left. -/
theorem at_next (c : Dev nD) (t : Fin cfg0.N) (h0 : ¬t.val % 8 = 0) :
    (outsAt0 m c t.val t.isLt).1 = winOut (blk m c t) (outsAt0 m c (t.val - 1) (by omega)).2.2 ∧
    (outsAt0 m c t.val t.isLt).2.2 = winSt (blk m c t) (outsAt0 m c (t.val - 1) (by omega)).2.2 := by
  by_cases h1 : t.val % 8 = 7
  · rw [outsAt0_C m c t h0 h1]
    dsimp only [blk]
    exact ⟨out_C .., st_C ..⟩
  · rw [outsAt0_B m c t h0 h1]
    dsimp only [blk]
    exact ⟨out_B .., st_B ..⟩

/-- The last window hands back the state it leaves. -/
theorem at_last (c : Dev nD) (t : Fin cfg0.N) (h1 : t.val % 8 = 7) :
    (outsAt0 m c t.val t.isLt).2.1 = k0_pay2 (F := Ideal) (outsAt0 m c t.val t.isLt).2.2 := by
  rw [outsAt0_C m c t (by omega) h1]
  dsimp only [blk]
  refine (fin_C ..).trans (congrArg (k0_pay2 (F := Ideal)) (st_C ..).symm)

end Cert.DN

end

end
-- ==== Proof.DNMath.lean ====
module

public import Mathlib.Data.Matrix.Mul
public import Mathlib.LinearAlgebra.Matrix.NonsingularInverse
public import Mathlib.Data.Real.Basic
public import Mathlib.Analysis.SpecialFunctions.Exp
import Mathlib.Tactic.NoncommRing

@[expose] public section

noncomputable section

namespace Cert.DNMath

open Finset

/-- The pairs the level `l` of the block inversion joins: row and column lie in one block of `2^(l+1)`,
    the row in its upper half and the column in its lower half. -/
def lvl (l i j : ℕ) : Prop :=
  i / 2 ^ (l + 1) = j / 2 ^ (l + 1) ∧ i / 2 ^ l % 2 = 1 ∧ j / 2 ^ l % 2 = 0

/-- Whether two tokens meet at a level is decided by arithmetic. -/
instance (l i j : ℕ) : Decidable (lvl l i j) := by unfold lvl; infer_instance

/-- The matrix `M` kept on the pairs of level `l`. -/
def onLvl {n : ℕ} (M : Matrix (Fin n) (Fin n) ℝ) (l : ℕ) : Matrix (Fin n) (Fin n) ℝ :=
  fun i j => if lvl l i j then M i j else 0

/-- The matrix `M` kept on the diagonal blocks of `2^l`. -/
def onBlk {n : ℕ} (M : Matrix (Fin n) (Fin n) ℝ) (l : ℕ) : Matrix (Fin n) (Fin n) ℝ :=
  fun i j => if i.val / 2 ^ l = j.val / 2 ^ l then M i j else 0

/-- The running inverse after `l` levels: one step `t - t (M on level l) t` a level, from the identity. -/
def inv {n : ℕ} (M : Matrix (Fin n) (Fin n) ℝ) : ℕ → Matrix (Fin n) (Fin n) ℝ
  | 0 => 1
  | l + 1 => inv M l - inv M l * onLvl M l * inv M l

/-- Halving once more. -/
theorem div_succ (i l : ℕ) : i / 2 ^ (l + 1) = i / 2 ^ l / 2 := by
  rw [pow_succ, Nat.div_div_eq_div_mul]

/-- Entries of the running inverse across two blocks are zero. -/
theorem inv_off {n : ℕ} (M : Matrix (Fin n) (Fin n) ℝ) (l : ℕ) (i j : Fin n)
    (h : i.val / 2 ^ l ≠ j.val / 2 ^ l) : inv M l i j = 0 := by
  induction l generalizing i j with
  | zero =>
    simp only [inv, pow_zero, Nat.div_one] at h ⊢
    exact Matrix.one_apply_ne (fun e => h (congrArg _ e))
  | succ l ih =>
    have hd : i.val / 2 ^ l ≠ j.val / 2 ^ l := fun e => h (by rw [div_succ, div_succ, e])
    simp only [inv, Matrix.sub_apply, ih i j hd, zero_sub, neg_eq_zero, Matrix.mul_apply]
    refine Finset.sum_eq_zero fun b _ => ?_
    by_cases hb : b.val / 2 ^ l = j.val / 2 ^ l
    · refine mul_eq_zero_of_left (Finset.sum_eq_zero fun a _ => ?_) _
      by_cases ha : i.val / 2 ^ l = a.val / 2 ^ l
      · refine mul_eq_zero_of_right _ ?_
        unfold onLvl
        refine if_neg fun hl => h ?_
        have h1 := hl.1
        rw [div_succ, div_succ] at h1 ⊢
        rw [ha, ← hb]; exact h1
      · exact mul_eq_zero_of_left (ih i a ha) _
    · exact mul_eq_zero_of_right _ (ih b j hb)

/-- Two factors of level `l` around the running inverse vanish. -/
theorem lvl_inv_lvl {n : ℕ} (M : Matrix (Fin n) (Fin n) ℝ) (l : ℕ) :
    onLvl M l * inv M l * onLvl M l = 0 := by
  ext i j
  simp only [Matrix.mul_apply, Matrix.zero_apply]
  refine Finset.sum_eq_zero fun b _ => ?_
  by_cases hb : lvl l b j
  · refine mul_eq_zero_of_left (Finset.sum_eq_zero fun a _ => ?_) _
    by_cases ha : lvl l i a
    · refine mul_eq_zero_of_right _ (inv_off M l a b fun e => ?_)
      have h1 := ha.2.2
      have h2 := hb.2.1
      rw [e] at h1; omega
    · exact mul_eq_zero_of_left (if_neg ha) _
  · exact mul_eq_zero_of_right _ (if_neg hb)

/-- A strictly lower matrix on blocks of `2^(l+1)` is it on blocks of `2^l` and on the pairs of level `l`. -/
theorem onBlk_succ {n : ℕ} (M : Matrix (Fin n) (Fin n) ℝ) (hM : ∀ i j, i ≤ j → M i j = 0) (l : ℕ) :
    onBlk M (l + 1) = onBlk M l + onLvl M l := by
  ext i j
  simp only [onBlk, onLvl, Matrix.add_apply]
  rcases le_or_gt i j with hij | hij
  · simp [hM i j hij]
  · have hle : j.val / 2 ^ l ≤ i.val / 2 ^ l := Nat.div_le_div_right (le_of_lt hij)
    simp only [lvl, div_succ]
    generalize i.val / 2 ^ l = a at *
    generalize j.val / 2 ^ l = b at *
    by_cases h1 : a / 2 = b / 2
    · by_cases h2 : a = b
      · subst h2
        have : ¬ (a / 2 = a / 2 ∧ a % 2 = 1 ∧ a % 2 = 0) := by omega
        simp [this]
      · have h3 : a % 2 = 1 ∧ b % 2 = 0 := by omega
        simp [h1, h2, h3]
    · have h2 : a ≠ b := fun e => h1 (by rw [e])
      simp [h1, h2]

/-- After `l` levels the running inverse inverts `1 + M` on blocks of `2^l`. -/
theorem inv_mul {n : ℕ} (M : Matrix (Fin n) (Fin n) ℝ) (hM : ∀ i j, i ≤ j → M i j = 0) (l : ℕ) :
    inv M l * (1 + onBlk M l) = 1 := by
  induction l with
  | zero =>
    have : onBlk M 0 = 0 := by
      ext i j
      simp only [onBlk, pow_zero, Nat.div_one, Matrix.zero_apply]
      split
      · exact hM i j (le_of_eq (Fin.ext ‹_›))
      · rfl
    simp [inv, this]
  | succ l ih =>
    rw [onBlk_succ M hM l]
    simp only [inv]
    have h0 := lvl_inv_lvl M l
    generalize onLvl M l = L at *
    generalize inv M l = t at *
    generalize onBlk M l = B at *
    have e : (t - t * L * t) * (1 + (B + L))
        = t * (1 + B) + t * L - t * L * (t * (1 + B)) - t * (L * t * L) := by
      noncomm_ring
    rw [e, ih, h0]; simp

/-- With enough levels the running inverse is the inverse of `1 + M`, on either side. -/
theorem one_add_mul_inv {n : ℕ} (M : Matrix (Fin n) (Fin n) ℝ) (hM : ∀ i j, i ≤ j → M i j = 0) (l : ℕ)
    (hn : n ≤ 2 ^ l) : (1 + M) * inv M l = 1 := by
  have hB : onBlk M l = M := by
    ext i j
    have hi : i.val / 2 ^ l = 0 := Nat.div_eq_of_lt (lt_of_lt_of_le i.isLt hn)
    have hj : j.val / 2 ^ l = 0 := Nat.div_eq_of_lt (lt_of_lt_of_le j.isLt hn)
    simp [onBlk, hi, hj]
  have := inv_mul M hM l
  rw [hB] at this
  exact mul_eq_one_comm.mp this

/-! ## One window of the recurrence -/

variable {D : Type} [Fintype D]

/-- One token of the gated delta recurrence on the state `S`, with log gate `a` and write strength `b`. -/
def stepS (a b : ℝ) (k v : D → ℝ) (S : D → D → ℝ) : D → D → ℝ := fun d e =>
  Real.exp a * (S d e - b * k d * ∑ c, k c * S c e) + b * k d * v e

/-- The state before token `t`. -/
def stateAt (g b : ℕ → ℝ) (k v : ℕ → D → ℝ) (S0 : D → D → ℝ) : ℕ → D → D → ℝ
  | 0 => S0
  | t + 1 => stepS (g t) (b t) (k t) (v t) (stateAt g b k v S0 t)

/-- The states from token `s` on are those of the recurrence started there. -/
theorem stateAt_add (g b : ℕ → ℝ) (k v : ℕ → D → ℝ) (S0 : D → D → ℝ) (s t : ℕ) :
    stateAt (fun i => g (s + i)) (fun i => b (s + i)) (fun i => k (s + i)) (fun i => v (s + i))
      (stateAt g b k v S0 s) t = stateAt g b k v S0 (s + t) := by
  induction t with
  | zero => rfl
  | succ t ih =>
    show stepS (g (s + t)) (b (s + t)) (k (s + t)) (v (s + t)) _ = stepS _ _ _ _ (stateAt g b k v S0 (s + t))
    rw [ih]; rfl

variable {n : ℕ}

/-- The gates' inclusive running sum within the window. -/
def gc (g : Fin n → ℝ) (i : Fin n) : ℝ := ∑ j, (if j ≤ i then (1 : ℝ) else 0) * g j

/-- The decay from token `j` to token `i`, zero past the diagonal. -/
def dec (g : Fin n → ℝ) (i j : Fin n) : ℝ := if j ≤ i then Real.exp (gc g i - gc g j) else 0

/-- The strictly lower matrix the window inverts. -/
def mat (g b : Fin n → ℝ) (k : Fin n → D → ℝ) : Matrix (Fin n) (Fin n) ℝ := fun i j =>
  b i * (∑ c, k i c * k j c) * (dec g i j * (if j < i then 1 else 0))

/-- The corrected values, `L` levels of inversion. -/
def vnew (L : ℕ) (g b : Fin n → ℝ) (k v : Fin n → D → ℝ) (S0 : D → D → ℝ) (i : Fin n) (e : D) : ℝ :=
  (∑ j, inv (mat g b k) L i j * (v j e * b j))
    - ∑ c, (∑ j, inv (mat g b k) L i j * (k j c * (b j * Real.exp (gc g j)))) * S0 c e

/-- The window's output. -/
def outC (L : ℕ) (g b : Fin n → ℝ) (q k v : Fin n → D → ℝ) (S0 : D → D → ℝ) (i : Fin n) (e : D) : ℝ :=
  (∑ c, q i c * Real.exp (gc g i) * S0 c e)
    + ∑ j, (∑ c, q i c * k j c) * dec g i j * vnew L g b k v S0 j e

/-- The state after the window, `l` its last token. -/
def stateC (L : ℕ) (l : Fin n) (g b : Fin n → ℝ) (k v : Fin n → D → ℝ) (S0 : D → D → ℝ) (d e : D) : ℝ :=
  S0 d e * Real.exp (gc g l) + ∑ j, k j d * Real.exp (gc g l - gc g j) * vnew L g b k v S0 j e

/-- The corrected values solve the window's triangular system. -/
theorem vnew_eq (L : ℕ) (hn : n ≤ 2 ^ L) (g b : Fin n → ℝ) (k v : Fin n → D → ℝ) (S0 : D → D → ℝ)
    (i : Fin n) (e : D) :
    vnew L g b k v S0 i e + ∑ j, mat g b k i j * vnew L g b k v S0 j e
      = v i e * b i - ∑ c, k i c * (b i * Real.exp (gc g i)) * S0 c e := by
  have hM : ∀ i j, i ≤ j → mat g b k i j = 0 := fun i j h => by
    simp [mat, not_lt.mpr h]
  have h1 := one_add_mul_inv (mat g b k) hM L hn
  let r : Fin n → ℝ := fun j => v j e * b j - ∑ c, k j c * (b j * Real.exp (gc g j)) * S0 c e
  have hv : (fun j => vnew L g b k v S0 j e) = (inv (mat g b k) L).mulVec r := by
    funext j
    simp only [vnew, Matrix.mulVec, dotProduct, r, mul_sub, Finset.sum_sub_distrib]
    congr 1
    simp only [Finset.sum_mul, Finset.mul_sum]
    rw [Finset.sum_comm]
    refine Finset.sum_congr rfl fun _ _ => Finset.sum_congr rfl fun _ _ => by ring
  have h2 : (1 + mat g b k).mulVec (fun j => vnew L g b k v S0 j e) = r := by
    rw [hv, Matrix.mulVec_mulVec, h1, Matrix.one_mulVec]
  have h3 := congrFun h2 i
  rw [Matrix.add_mulVec, Matrix.one_mulVec] at h3
  exact h3

/-- The sum of the gates before token `t`. -/
def gsum (g : ℕ → ℝ) (t : ℕ) : ℝ := ∑ j ∈ Finset.range t, g j

/-- The cumulative decay of a chunk is the sum up to the token. -/
theorem gc_eq (g : ℕ → ℝ) (i : Fin n) : gc (fun j : Fin n => g j) i = gsum g (i + 1) := by
  unfold gc gsum
  simp only [ite_mul, one_mul, zero_mul]
  have h : ∀ j : Fin n, (if j ≤ i then g j else 0) = (fun j : ℕ => if j ≤ i.val then g j else 0) j.val :=
    fun j => rfl
  simp only [h]
  rw [Fin.sum_univ_eq_sum_range (fun j : ℕ => if j ≤ i.val then g j else 0) n, ← Finset.sum_filter]
  refine Finset.sum_congr ?_ fun _ _ => rfl
  ext j
  have := i.isLt
  simp only [Finset.mem_filter, Finset.mem_range]
  omega

/-- The states within a window, by the corrected values. -/
theorem state_window (L : ℕ) (hn : n ≤ 2 ^ L) (g b : ℕ → ℝ) (k v : ℕ → D → ℝ) (S0 : D → D → ℝ)
    (t : ℕ) (ht : t ≤ n) (d e : D) :
    stateAt g b k v S0 t d e = S0 d e * Real.exp (gsum g t)
      + ∑ j : Fin n, (if j.val < t then
          k j d * Real.exp (gsum g t - gsum g (j + 1)) *
            vnew L (fun i : Fin n => g i) (fun i => b i) (fun i => k i) (fun i => v i) S0 j e else 0) := by
  induction t generalizing d e with
  | zero => simp [stateAt, gsum]
  | succ t ih =>
    have ih' := ih (by omega)
    let i : Fin n := ⟨t, by omega⟩
    have hs : gsum g (t + 1) = gsum g t + g t := by simp [gsum, Finset.sum_range_succ]
    have hV := vnew_eq L hn (fun i : Fin n => g i) (fun i => b i) (fun i => k i) (fun i => v i) S0 i e
    set V := vnew L (fun i : Fin n => g i) (fun i => b i) (fun i => k i) (fun i => v i) S0 with hVd
    -- the state scaled by the token's gate
    have hsc : ∀ c, Real.exp (g t) * stateAt g b k v S0 t c e = S0 c e * Real.exp (gsum g (t + 1))
        + ∑ j : Fin n, (if j.val < t then k j c * Real.exp (gsum g (t + 1) - gsum g (j + 1)) * V j e else 0) := by
      intro c
      rw [ih' c e, mul_add, Finset.mul_sum]
      congr 1
      · rw [hs, Real.exp_add]; ring
      · refine Finset.sum_congr rfl fun j _ => ?_
        split
        · rw [hs, add_sub_right_comm, Real.exp_add]; ring
        · simp
    -- the corrected value of the token
    have hVi : V i e = b t * (v t e - ∑ c, k t c * (Real.exp (g t) * stateAt g b k v S0 t c e)) := by
      have hVi' := eq_sub_of_add_eq hV
      rw [hVi']
      simp only [hsc, mat, dec, gc_eq, mul_add, Finset.sum_add_distrib, mul_sub]
      have e1 : ∑ c, k i c * (b i * Real.exp (gsum g (i.val + 1))) * S0 c e
          = b t * ∑ c, k t c * (S0 c e * Real.exp (gsum g (t + 1))) := by
        rw [Finset.mul_sum]
        exact Finset.sum_congr rfl fun c _ => by simp only [i]; ring
      have e2 : ∑ j : Fin n, b i * (∑ c, k i c * k j c) *
            ((if j ≤ i then Real.exp (gsum g (i.val + 1) - gsum g (j.val + 1)) else 0)
              * (if j < i then 1 else 0)) * V j e
          = b t * ∑ c, k t c * ∑ j : Fin n,
              (if j.val < t then k j c * Real.exp (gsum g (t + 1) - gsum g (j + 1)) * V j e else 0) := by
        rw [Finset.mul_sum]
        simp only [Finset.mul_sum]
        rw [Finset.sum_comm]
        refine Finset.sum_congr rfl fun j _ => ?_
        by_cases hj : j < i
        · have hj' : j.val < t := hj
          simp only [hj, hj', hj.le, if_true, mul_one, Finset.sum_mul, Finset.mul_sum]
          exact Finset.sum_congr rfl fun c _ => by simp only [i]; ring
        · have hj' : ¬ j.val < t := hj
          simp [hj, hj']
      rw [e1, e2]
      simp only [i]; ring
    have hst : stateAt g b k v S0 (t + 1) d e
        = Real.exp (g t) * stateAt g b k v S0 t d e + k t d * V i e := by
      show stepS _ _ _ _ _ d e = _
      rw [hVi]
      simp only [stepS]
      have : ∑ c, k t c * (Real.exp (g t) * stateAt g b k v S0 t c e)
          = Real.exp (g t) * ∑ c, k t c * stateAt g b k v S0 t c e := by
        rw [Finset.mul_sum]; exact Finset.sum_congr rfl fun c _ => by ring
      rw [this]; ring
    rw [hst, hsc d, add_assoc]
    congr 1
    have hsplit : ∀ j : Fin n,
        (if j.val < t + 1 then k j d * Real.exp (gsum g (t + 1) - gsum g (j + 1)) * V j e else 0)
          = (if j.val < t then k j d * Real.exp (gsum g (t + 1) - gsum g (j + 1)) * V j e else 0)
            + (if j = i then k t d * V i e else 0) := by
      intro j
      by_cases h1 : j.val < t
      · have h2 : j ≠ i := fun h => by rw [h] at h1; simp [i] at h1
        have h3 : j.val < t + 1 := by omega
        simp [h1, h2, h3]
      · by_cases h2 : j = i
        · subst h2; simp [i]
        · have h3 : ¬ j.val < t + 1 := fun h => h2 (Fin.ext (by simp only [i]; omega))
          simp [h1, h2, h3]
    simp only [hsplit, Finset.sum_add_distrib, Finset.sum_ite_eq', Finset.mem_univ, if_true]

/-- The window's output is the recurrence's: each query against the state after its token. -/
theorem outC_eq (L : ℕ) (hn : n ≤ 2 ^ L) (g b : ℕ → ℝ) (q k v : ℕ → D → ℝ) (S0 : D → D → ℝ)
    (i : Fin n) (e : D) :
    outC L (fun i : Fin n => g i) (fun i => b i) (fun i => q i) (fun i => k i) (fun i => v i) S0 i e
      = ∑ c, q i c * stateAt g b k v S0 (i.val + 1) c e := by
  simp only [state_window L hn g b k v S0 (i.val + 1) i.isLt, outC, mul_add, Finset.sum_add_distrib]
  congr 1
  · exact Finset.sum_congr rfl fun c _ => by rw [gc_eq]; ring
  · simp only [Finset.mul_sum]
    rw [Finset.sum_comm]
    refine Finset.sum_congr rfl fun j _ => ?_
    by_cases h : j ≤ i
    · have h' : j.val < i.val + 1 := Nat.lt_succ_of_le h
      simp only [dec, h, h', if_true, gc_eq, Finset.sum_mul]
      exact Finset.sum_congr rfl fun c _ => by ring
    · have h' : ¬ j.val < i.val + 1 := fun hh => h (Nat.le_of_lt_succ hh)
      simp [dec, h, h']

/-- The state the window leaves is the recurrence's after its last token. -/
theorem stateC_eq (L : ℕ) (hn : n ≤ 2 ^ L) (l : Fin n) (hl : l.val + 1 = n) (g b : ℕ → ℝ)
    (k v : ℕ → D → ℝ) (S0 : D → D → ℝ) (d e : D) :
    stateC L l (fun i : Fin n => g i) (fun i => b i) (fun i => k i) (fun i => v i) S0 d e
      = stateAt g b k v S0 n d e := by
  rw [state_window L hn g b k v S0 n le_rfl]
  simp only [stateC, gc_eq, Fin.is_lt, if_true, hl]

end Cert.DNMath

end

end
-- ==== Proof.DNReal.lean ====
module

public import proofs.«01_k».proof.Proof.DNHead
public import proofs.«01_k».proof.Proof.DNMath
public import Idealize.ShloMosaic.Lib.Pointwise
public import Idealize.ShloMosaic.PureOps.Ideal
public import Mathlib.Analysis.SpecialFunctions.Exp

@[expose] public section

set_option maxRecDepth 16384

noncomputable section

namespace Cert.DN

open Cert.KernelIdeal Cert.KernelIdeal.Gen Idealize.ShloMosaic

/-- A real matrix as an array of extended reals. -/
def cv {a b : ℕ} {φ : FTy} (f : Fin a → Fin b → ℝ) : FVec Ideal (⟨2, ![a, b]⟩ : Shape) φ :=
  fun i => ((f (i 0) (i 1) : ℝ) : EReal)

/-- A sum of reals is a sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section
variable {a b : ℕ}
/-- Products of real matrices, entry by entry. -/
theorem mulf_cv (f g : Fin a → Fin b → ℝ) : mulf (F := Ideal) (φ := .f32) (cv f) (cv g) = cv fun i j => f i j * g i j := by
  funext i; exact (EReal.coe_mul _ _).symm
/-- Sums of real matrices. -/
theorem addf_cv (f g : Fin a → Fin b → ℝ) : addf (F := Ideal) (φ := .f32) (cv f) (cv g) = cv fun i j => f i j + g i j := by
  funext i; exact (EReal.coe_add _ _).symm
/-- Differences of real matrices. -/
theorem subf_cv (f g : Fin a → Fin b → ℝ) : subf (F := Ideal) (φ := .f32) (cv f) (cv g) = cv fun i j => f i j - g i j := by
  funext i; exact (EReal.coe_sub _ _).symm
/-- Exponentials of real matrices. -/
theorem exp_cv (f : Fin a → Fin b → ℝ) : exp (F := Ideal) (φ := .f32) (cv f) = cv fun i j => Real.exp (f i j) := by
  funext i; rfl
/-- A change of format leaves a real matrix. -/
theorem truncf_cv (f : Fin a → Fin b → ℝ) (h) : truncf (F := Ideal) (φ := .f32) .bf16 (cv f) h = cv f := by
  funext i; rfl
end

/-- The exponential of a real. -/
theorem exp_coe (x : ℝ) : Ideal.exp (x : EReal) = ((Real.exp x : ℝ) : EReal) := rfl

/-- The exponential of minus infinity. -/
theorem exp_bot : Ideal.exp (⊥ : EReal) = ((0 : ℝ) : EReal) := rfl

/-- The masked entry is minus infinity. -/
theorem masked_eq : (Named.named κ "masked" 0xF149F2CA#32 : Ideal .f32) = (⊥ : EReal) := rfl

/-- The product of two real matrices. -/
theorem hMul_cv (f g : Fin 256 → Fin 256 → ℝ) : hMul (cv f) (cv g) = cv fun i j => ∑ k, f i k * g k j := by
  funext i; idx_vars i
  pointwise [cv, hMul]
  rw [coe_sum]
  simp only [EReal.coe_mul]

/-- The products of the rows of two real matrices. -/
theorem hGram_cv (f g : Fin 256 → Fin 128 → ℝ) : hGram (cv f) (cv g) = cv fun i j => ∑ k, f i k * g j k := by
  funext i; idx_vars i
  pointwise [cv, hGram]
  rw [coe_sum]
  simp only [EReal.coe_mul]

/-- Rows through a state. -/
theorem hThru_cv (f : Fin 256 → Fin 128 → ℝ) (g : Fin 128 → Fin 128 → ℝ) : hThru (cv f) (cv g) = cv fun i j => ∑ k, f i k * g k j := by
  funext i; idx_vars i
  pointwise [cv, hThru]
  rw [coe_sum]
  simp only [EReal.coe_mul]

/-- The decays between the tokens of a chunk. -/
theorem hDec_cv (G : Fin 256 → ℝ) :
    hDec (cv fun i _ => G i) (cv fun _ j => G j) (cv fun i j => if j ≤ i then 1 else 0)
      = cv fun i j => if j ≤ i then Real.exp (G i - G j) else 0 := by
  funext i; idx_vars i
  pointwise [cv, hDec]
  rw [masked_eq]
  by_cases h : i1 ≤ i0
  · rw [if_pos (by simp [h]), if_pos h, ← EReal.coe_sub, exp_coe]
  · rw [if_neg (by simp [h]), if_neg h]
    exact exp_bot

/-- The chunk's triangular matrix. -/
theorem hMat_cv (b : Fin 256 → ℝ) (k : Fin 256 → Fin 128 → ℝ) (d : Fin 256 → Fin 256 → ℝ) :
    hMat (cv fun i _ => b i) (cv k) (cv d) (cv fun i j => if j < i then 1 else 0)
      = cv fun i j => b i * (∑ c, k i c * k j c) * (d i j * (if j < i then 1 else 0)) := by
  unfold hMat
  rw [hGram_cv, show broadcastTo S256x256 (cv fun i _ => b i : FVec Ideal S256x1 .f32) broadcasts_S256x1_S256x256
    = cv fun i _ => b i from by funext i; idx_vars i; pointwise [cv], mulf_cv, mulf_cv, mulf_cv]

/-- One level of the doubling. -/
theorem hLev_cv (M t l : Fin 256 → Fin 256 → ℝ) (x : FVec Ideal S1x256x256 .f32)
    (hx : shapeCast S256x256 x shapeCasts_S1x256x256_S256x256 = cv l) :
    hLev (cv M) (cv t) x = cv fun i j => t i j - ∑ b, (∑ a, t i a * (M a b * l a b)) * t b j := by
  unfold hLev
  rw [hx, mulf_cv, hMul_cv, hMul_cv, subf_cv]

/-- The solution for the values. -/
theorem hSol0_cv (T : Fin 256 → Fin 256 → ℝ) (G b : Fin 256 → ℝ) (k v : Fin 256 → Fin 128 → ℝ) :
    extractStridedSlice S256x128 ![0, 0] (hSol (cv T) (cv fun i _ => G i) (cv fun i _ => b i) (cv k) (cv v)) slices_S256x256_o0_0_S256x128
      = cv fun i e => ∑ j, T i j * (v j e * b j) := by
  funext i; idx_vars i
  pointwise [cv, hSol, hMul]
  rw [coe_sum]
  simp only [EReal.coe_mul, exp_coe]

/-- The solution for the keys. -/
theorem hSol1_cv (T : Fin 256 → Fin 256 → ℝ) (G b : Fin 256 → ℝ) (k v : Fin 256 → Fin 128 → ℝ) :
    extractStridedSlice S256x128 ![0, 128] (hSol (cv T) (cv fun i _ => G i) (cv fun i _ => b i) (cv k) (cv v)) slices_S256x256_o0_128_S256x128
      = cv fun i e => ∑ j, T i j * (k j e * (b j * Real.exp (G j))) := by
  funext i; idx_vars i
  pointwise [cv, hSol, hMul]
  rw [coe_sum]
  simp only [EReal.coe_mul, exp_coe]

/-- A chunk's outputs. -/
theorem hOut_cv (d : Fin 256 → Fin 256 → ℝ) (G : Fin 256 → ℝ) (q k vn : Fin 256 → Fin 128 → ℝ) (S : Fin 128 → Fin 128 → ℝ) :
    hOut (cv d) (cv fun i _ => G i) (cv q) (cv k) (cv S) (cv vn)
      = cv fun i e => (∑ c, q i c * Real.exp (G i) * S c e) + ∑ j, (∑ c, q i c * k j c) * d i j * vn j e := by
  unfold hOut
  rw [exp_cv, show broadcastTo S256x128 (cv fun i _ => Real.exp (G i) : FVec Ideal S256x1 .f32) broadcasts_S256x1_S256x128
    = cv fun i _ => Real.exp (G i) from by funext i; idx_vars i; pointwise [cv], mulf_cv, hThru_cv, hGram_cv, mulf_cv, truncf_cv, truncf_cv]
  funext i; idx_vars i
  pointwise [cv]
  rw [EReal.coe_add, coe_sum, coe_sum]
  simp only [EReal.coe_mul]

/-- The state after a chunk. -/
theorem hState_cv (G : Fin 256 → ℝ) (k vn : Fin 256 → Fin 128 → ℝ) (S : Fin 128 → Fin 128 → ℝ) :
    hState (cv fun i _ => G i) (cv k) (cv S) (cv vn)
      = cv fun d e => S d e * Real.exp (G 255) + ∑ j, k j d * Real.exp (G 255 - G j) * vn j e := by
  funext i; idx_vars i
  pointwise [cv, hState]
  rw [EReal.coe_add, coe_sum]
  simp only [EReal.coe_mul, exp_coe, ← EReal.coe_sub]

end Cert.DN

end

end
-- ==== Proof.DNWin.lean ====
module

public import proofs.«01_k».proof.Proof.DNReal

@[expose] public section

set_option maxRecDepth 16384

noncomputable section

namespace Cert.DN

open Cert.KernelIdeal Cert.KernelIdeal.Gen Idealize.ShloMosaic Idealize.ShloMosaic.TcCoe Idealize.SL.Sem

/-! ## A window over real blocks -/

/-- The tables: the strict and the full lower triangle, then the pairs of each level. -/
def tabR (l : ℕ) (i j : Fin 256) : ℝ :=
  if l = 0 then (if j < i then 1 else 0) else if l = 1 then (if j ≤ i then 1 else 0)
  else if DNMath.lvl (l - 2) i j then 1 else 0

/-- The tables as an array. -/
def tabV : FVec Ideal S10x256x256 .f32 := fun i => ((tabR (i 0) (i 1) (i 2) : ℝ) : EReal)

/-- The mask of a level. -/
theorem hMask_cv (l : ℕ) (inb) :
    shapeCast S256x256 (hMask l inb tabV) shapeCasts_S1x256x256_S256x256 = cv fun i j => tabR l i j := by
  funext i; idx_vars i
  pointwise [cv, hMask]
  refine congrArg (Real.toEReal) (congr (congr (congrArg tabR ?_) ?_) ?_)
  · show l + 1 * 0 = l
    omega
  · refine Fin.ext ?_
    rfl
  · refine Fin.ext ?_
    rfl

/-- The doubling over eight levels inverts the triangular matrix. -/
theorem hInv_cv (M : Matrix (Fin 256) (Fin 256) ℝ) :
    hInv tabV (cv fun i j => M i j) = cv fun i j => DNMath.inv M 8 i j := by
  have e1 : hFst tabV (cv fun i j => M i j) = cv fun i j => DNMath.inv M 1 i j := by
    unfold hFst hEye
    rw [hMask_cv, hMask_cv, hMask_cv, subf_cv, mulf_cv, subf_cv]
    refine congrArg cv ?_
    funext i j
    simp only [tabR, DNMath.inv, one_mul, mul_one, Matrix.sub_apply, Matrix.one_apply, DNMath.onLvl]
    norm_num
    rcases lt_trichotomy j i with h | h | h
    · simp [h, h.le, h.ne']
    · simp [h]
    · simp [h.not_ge, h.not_gt, h.ne]
  have es : ∀ (l : ℕ) (inb), hLev (cv fun i j => M i j) (cv fun i j => DNMath.inv M (l + 1) i j) (hMask (l + 3) inb tabV)
      = cv fun i j => DNMath.inv M (l + 2) i j := by
    intro l inb
    rw [hLev_cv _ _ _ _ (hMask_cv _ inb)]
    refine congrArg cv ?_
    funext i j
    show _ = (DNMath.inv M (l + 1) - DNMath.inv M (l + 1) * DNMath.onLvl M (l + 1) * DNMath.inv M (l + 1)) i j
    generalize DNMath.inv M (l + 1) = T
    have ht : ∀ a b : Fin 256, M a b * tabR (l + 3) a b = DNMath.onLvl M (l + 1) a b := fun a b => by
      unfold tabR DNMath.onLvl
      rw [if_neg (by omega), if_neg (by omega), show l + 3 - 2 = l + 1 from rfl]
      split <;> simp
    simp only [Matrix.sub_apply, Matrix.mul_apply, ht]
  unfold hInv
  rw [e1, es 0, es 1, es 2, es 3, es 4, es 5, es 6]

/-- The softplus as the kernel writes it. -/
def sp (x : ℝ) : ℝ := max x 0 + Real.log (1 + Real.exp (0 - |x|))

/-- The logistic as the kernel writes it. -/
def sg (x : ℝ) : ℝ := 1 / (1 + Real.exp (0 - x))

/-- The larger of two real numbers. -/
theorem coe_max (x y : ℝ) : ((max x y : ℝ) : EReal) = max (x : EReal) (y : EReal) :=
  Monotone.map_max fun _ _ h => EReal.coe_le_coe_iff.mpr h

/-- The softplus of a real is a real. -/
theorem sp_real (x : ℝ) : max (x : EReal) 0 + Ideal.log (1 + Ideal.exp (0 - FloatOps.absf (F := Ideal) (φ := .f32) (x : EReal)))
    = ((sp x : ℝ) : EReal) := by
  have ha : FloatOps.absf (F := Ideal) (φ := .f32) (x : EReal) = ((|x| : ℝ) : EReal) := by
    show max (x : EReal) (-(x : EReal)) = _
    rw [← EReal.coe_neg, ← coe_max]; rfl
  rw [ha, ← EReal.coe_zero, ← EReal.coe_sub, exp_coe, ← EReal.coe_one, ← EReal.coe_add, Ideal.log_coe,
    if_neg (by have := Real.exp_pos (0 - |x|); linarith), ← coe_max, ← EReal.coe_add]
  rfl

/-- A token's decay is a real number. -/
theorem gate_real (p x y : ℝ) : (p : EReal) * (max ((x : EReal) + y) 0 + Ideal.log (1 + Ideal.exp (0 - FloatOps.absf (F := Ideal) (φ := .f32) ((x : EReal) + y))))
    = ((p * sp (x + y) : ℝ) : EReal) := by
  rw [EReal.coe_mul, ← sp_real, EReal.coe_add]

/-- The logistic of a real is a real. -/
theorem sg_real (x : ℝ) : Ideal.div 1 (1 + Ideal.exp (0 - (x : EReal))) = ((sg x : ℝ) : EReal) := by
  rw [← EReal.coe_zero, ← EReal.coe_sub, exp_coe, ← EReal.coe_one, ← EReal.coe_add,
    Ideal.div_coe (by have := Real.exp_pos (0 - x); linarith), ← EReal.coe_mul]
  simp [sg]

section
variable (X : Blk) (sm : Fin 256 → Fin 128 → ℝ) (pa pdt : Fin 128 → ℝ)
  (hsm : X.sm = cv sm) (hpa : X.pa = cv fun _ l => pa l) (hpdt : X.pdt = cv fun _ l => pdt l)
  (hcc : X.cc = cv fun i j => if j ≤ i then 1 else 0) (hcr : X.cr = cv fun j i => if j ≤ i then 1 else 0)
include hsm hpa hpdt

/-- The decays of a window. -/
theorem gate_cv : k0_pay4 X.sm X.pa X.pdt = cv fun i l => pa l * sp (sm i l + pdt l) := by
  rw [hsm, hpa, hpdt]
  funext i; idx_vars i
  pointwise [cv, k0_pay4]
  exact gate_real _ _ _

include hcc in
/-- The cumulative decays of a head, as a column. -/
theorem gcc_cv (h : Hd) (ha : h.a < 128) :
    pGcc X h = cv fun i _ => DNMath.gc (fun j => pa ⟨h.a, ha⟩ * sp (sm j ⟨h.a, ha⟩ + pdt ⟨h.a, ha⟩)) i := by
  unfold pGcc
  rw [gate_cv X sm pa pdt hsm hpa hpdt, hcc]
  funext i; idx_vars i
  pointwise [cv, k0_pay10]
  unfold DNMath.gc
  rw [coe_sum]
  exact Finset.sum_congr rfl fun x _ => (EReal.coe_mul _ _).symm

include hcr in
/-- The cumulative decays of a head, as a row. -/
theorem gcr_cv (h : Hd) (ha : h.a < 128) :
    pGcr X h = cv fun _ i => DNMath.gc (fun j => pa ⟨h.a, ha⟩ * sp (sm j ⟨h.a, ha⟩ + pdt ⟨h.a, ha⟩)) i := by
  unfold pGcr k0_pay6
  rw [gate_cv X sm pa pdt hsm hpa hpdt, hcr]
  funext i; idx_vars i
  pointwise [cv, k0_pay11]
  unfold DNMath.gc
  rw [coe_sum]
  exact Finset.sum_congr rfl fun x _ => (mul_comm _ _).trans (EReal.coe_mul _ _).symm

omit hpa hpdt in
/-- The write strengths of a head. -/
theorem beta_cv (h : Hd) (hh : h.h < 128) :
    pBeta X h = cv fun i _ => sg (sm i ⟨h.h, hh⟩) := by
  unfold pBeta
  rw [hsm]
  funext i; idx_vars i
  pointwise [cv, k0_pay5]
  exact sg_real _
end

/-! ## A head's pieces over reals -/

section
variable (X : Blk) (S : FVec Ideal S8x128x128 .f32) (h : Hd) (g b : Fin 256 → ℝ) (q k v : Fin 256 → Fin 128 → ℝ)
  (S0 : Fin 128 → Fin 128 → ℝ)
  (hm : X.msk = tabV) (hG : pGcc X h = cv fun i _ => DNMath.gc g i) (hR : pGcr X h = cv fun _ i => DNMath.gc g i)
  (hb : pBeta X h = cv fun i _ => b i) (hq : pCol X.q h = cv q) (hk : pCol X.k h = cv k) (hv : pCol X.v h = cv v)
  (hS : pSt S h = cv S0)
include hm hG hR

/-- A head's decays between the tokens. -/
theorem pDec_cv : pDec X h = cv (DNMath.dec g) := by
  unfold pDec
  rw [hm, hG, hR, hMask_cv]
  exact hDec_cv (DNMath.gc g)

include hb hk
/-- A head's triangular matrix. -/
theorem pMat_cv : pMat X h = cv fun i j => DNMath.mat g b k i j := by
  unfold pMat
  rw [pDec_cv X h g hm hG hR, hb, hk, hm, hMask_cv]
  exact hMat_cv b k (DNMath.dec g)

include hv hS
/-- What a head writes for each token. -/
theorem pNew_cv : pNew X S h = cv (DNMath.vnew 8 g b k v S0) := by
  unfold pNew hNew
  rw [pMat_cv X h g b k hm hG hR hb hk, hm, hInv_cv, hG, hb, hk, hv, hS, hSol0_cv, hSol1_cv, hThru_cv, subf_cv]
  rfl

include hq
/-- A head's outputs. -/
theorem oPiece_cv : (oPiece X S h).2 = (cv (DNMath.outC 8 g b q k v S0) : FVec Ideal S256x128 .f32) := by
  show hOut _ _ _ _ _ _ = _
  rw [pNew_cv X S h g b k v S0 hm hG hR hb hk hv hS, pDec_cv X h g hm hG hR, hG, hq, hk, hS, hOut_cv]
  rfl

omit hq
/-- A head's state after the window. -/
theorem sPiece_cv : (sPiece X S h).2 = fun i => ((DNMath.stateC 8 255 g b k v S0 (i 1) (i 2) : ℝ) : EReal) := by
  show shapeCast S1x128x128 (hState _ _ _ _) _ = _
  rw [pNew_cv X S h g b k v S0 hm hG hR hb hk hv hS, hG, hk, hS, hState_cv]
  funext i; idx_vars i
  pointwise [cv]
  rfl
end

end Cert.DN

end

end
-- ==== Proof.DNVal.lean ====
module

public import proofs.«01_k».proof.Proof.DNWin

@[expose] public section

set_option maxRecDepth 16384

noncomputable section

namespace Cert.DN

open Cert.KernelIdeal Cert.KernelIdeal.Gen Idealize.ShloMosaic Idealize.ShloMosaic.TcCoe Idealize.SL.Sem

/-! ## The window's outputs and state, as the recurrence's -/

/-- The log gates of head `h`. -/
def gW (SM : ℕ → ℕ → ℝ) (PA PD : ℕ → ℝ) (h : ℕ) : ℕ → ℝ := fun j => PA (16 + h) * sp (SM j (16 + h) + PD (16 + h))

/-- The write strengths of head `h`. -/
def bW (SM : ℕ → ℕ → ℝ) (h : ℕ) : ℕ → ℝ := fun j => sg (SM j h)

/-- The columns of head `h`. -/
def cW (K : ℕ → ℕ → ℝ) (h : ℕ) : ℕ → Fin 128 → ℝ := fun j e => K j (128 * h + e)

/-- The states of head `h`. -/
def stW (SM : ℕ → ℕ → ℝ) (PA PD : ℕ → ℝ) (K V : ℕ → ℕ → ℝ) (S0 : ℕ → Fin 128 → Fin 128 → ℝ) (h t : ℕ) :
    Fin 128 → Fin 128 → ℝ :=
  DNMath.stateAt (gW SM PA PD h) (bW SM h) (cW K h) (cW V h) (S0 h) t

/-- The heads' pieces of the outputs, last written first. -/
abbrev oList (X : Blk) (S : FVec Ideal S8x128x128 .f32) : List (View.Piece (Elt Ideal) S256x1024 .f32) :=
  [oPiece X S hd7, oPiece X S hd6, oPiece X S hd5, oPiece X S hd4, oPiece X S hd3, oPiece X S hd2, oPiece X S hd1, oPiece X S hd0]

/-- The heads' pieces cover the outputs. -/
theorem oList_cover (X : Blk) (S : FVec Ideal S8x128x128 .f32) (y : S256x1024.Idx) : ∃ p ∈ oList X S, y ∈ p.1.set := by
  have hc : ∀ h : Hd, h.o ≤ (y 1 : ℕ) → (y 1 : ℕ) < h.o + 128 → y ∈ (oPiece X S h).1.set := fun h e1 e2 => by
    refine (Rect.mem_set_unit (inb := h.inbCol)).mpr fun a => ?_
    have h1 : (y 0 : ℕ) < 256 := (y 0).isLt
    fin_cases a
    · show 0 ≤ (y 0 : ℕ) ∧ (y 0 : ℕ) < 0 + 256
      omega
    · exact ⟨e1, e2⟩
  have h0 : (y 1 : ℕ) < 1024 := (y 1).isLt
  have : (y 1 : ℕ) / 128 = 0 ∨ (y 1 : ℕ) / 128 = 1 ∨ (y 1 : ℕ) / 128 = 2 ∨ (y 1 : ℕ) / 128 = 3 ∨ (y 1 : ℕ) / 128 = 4
      ∨ (y 1 : ℕ) / 128 = 5 ∨ (y 1 : ℕ) / 128 = 6 ∨ (y 1 : ℕ) / 128 = 7 := by omega
  rcases this with e | e | e | e | e | e | e | e
  · exact ⟨oPiece X S hd0, by simp, hc hd0 (by dsimp only; omega) (by dsimp only; omega)⟩
  · exact ⟨oPiece X S hd1, by simp, hc hd1 (by dsimp only; omega) (by dsimp only; omega)⟩
  · exact ⟨oPiece X S hd2, by simp, hc hd2 (by dsimp only; omega) (by dsimp only; omega)⟩
  · exact ⟨oPiece X S hd3, by simp, hc hd3 (by dsimp only; omega) (by dsimp only; omega)⟩
  · exact ⟨oPiece X S hd4, by simp, hc hd4 (by dsimp only; omega) (by dsimp only; omega)⟩
  · exact ⟨oPiece X S hd5, by simp, hc hd5 (by dsimp only; omega) (by dsimp only; omega)⟩
  · exact ⟨oPiece X S hd6, by simp, hc hd6 (by dsimp only; omega) (by dsimp only; omega)⟩
  · exact ⟨oPiece X S hd7, by simp, hc hd7 (by dsimp only; omega) (by dsimp only; omega)⟩

/-- The head's columns of a real array. -/
theorem pCol_cv (K : ℕ → ℕ → ℝ) (h : Hd) :
    pCol (cv fun i j => K i j) h = cv fun i e => K i (h.o + e) := by
  funext i; idx_vars i
  pointwise [cv, pCol]

/-- A state of reals. -/
def cvS (S0 : ℕ → Fin 128 → Fin 128 → ℝ) : FVec Ideal S8x128x128 .f32 := fun i => ((S0 (i 0) (i 1) (i 2) : ℝ) : EReal)

/-- The head's state of a real state. -/
theorem pSt_cv (S0 : ℕ → Fin 128 → Fin 128 → ℝ) (h : Hd) : pSt (cvS S0) h = cv (S0 h.h) := by
  have e : (View.ld (Val := Elt Ideal) (e' := .f32) (cvS S0) (Rect.unit (s := S8x128x128) ![h.h, 0, 0] ![1, 128, 128] h.inbSt)
      : FVec Ideal S1x128x128 .f32) = fun i => ((S0 h.h (i 1) (i 2) : ℝ) : EReal) := by
    funext i
    refine congrArg Real.toEReal (congr (congr (congrArg S0 ?_) ?_) ?_)
    · show h.h + 1 * (i 0 : ℕ) = h.h
      have : (i 0 : ℕ) < 1 := (i 0).isLt
      omega
    · refine Fin.ext ?_
      show 0 + 1 * (i 1 : ℕ) = i 1
      omega
    · refine Fin.ext ?_
      show 0 + 1 * (i 2 : ℕ) = i 2
      omega
  refine (congrArg (fun y : FVec Ideal S1x128x128 .f32 => shapeCast S128x128 y shapeCasts_S1x128x128_S128x128) e).trans ?_
  funext i; idx_vars i
  pointwise [cv]

section
variable (X : Blk) (Q K V SM : ℕ → ℕ → ℝ) (PA PD : ℕ → ℝ) (S0 : ℕ → Fin 128 → Fin 128 → ℝ)
  (hm : X.msk = tabV) (hcc : X.cc = cv fun i j => if j ≤ i then 1 else 0) (hcr : X.cr = cv fun j i => if j ≤ i then 1 else 0)
  (hsm : X.sm = cv fun i l => SM i l) (hpa : X.pa = cv fun _ l => PA l) (hpd : X.pdt = cv fun _ l => PD l)
  (hq : X.q = cv fun i j => Q i j) (hk : X.k = cv fun i j => K i j) (hv : X.v = cv fun i j => V i j)
include hm hcc hcr hsm hpa hpd hk hv

/-- A head's piece of the state is the recurrence's state after the window. -/
theorem sPiece_val (h : Hd) (ea : h.a = 16 + h.h) (eo : h.o = 128 * h.h) (eh : h.h < 8) (x : (sPiece X (cvS S0) h).1.shape.Idx) :
    (sPiece X (cvS S0) h).2 x
      = (cvS fun h => stW SM PA PD K V S0 h 256) ((sPiece X (cvS S0) h).1.emb x) := by
  rw [sPiece_cv X (cvS S0) h (fun i => gW SM PA PD h.h i) (fun i => bW SM h.h i) (fun i => cW K h.h i)
    (fun i => cW V h.h i) (S0 h.h) hm ?_ ?_ ?_ ?_ ?_ (pSt_cv S0 h)]
  · refine congrArg Real.toEReal ?_
    refine (DNMath.stateC_eq (n := 256) 8 (by norm_num) 255 rfl (gW SM PA PD h.h) (bW SM h.h) (cW K h.h) (cW V h.h) (S0 h.h)
      (x 1) (x 2)).trans ?_
    have e0 : (((sPiece X (cvS S0) h).1.emb x) 0 : ℕ) = h.h := by
      show h.h + 1 * (x 0 : ℕ) = h.h
      have : (x 0 : ℕ) < 1 := (x 0).isLt
      omega
    have e1 : ((sPiece X (cvS S0) h).1.emb x) 1 = x 1 := Fin.ext (by show 0 + 1 * (x 1 : ℕ) = x 1; omega)
    have e2 : ((sPiece X (cvS S0) h).1.emb x) 2 = x 2 := Fin.ext (by show 0 + 1 * (x 2 : ℕ) = x 2; omega)
    show _ = stW SM PA PD K V S0 (((sPiece X (cvS S0) h).1.emb x) 0 : ℕ) 256 (((sPiece X (cvS S0) h).1.emb x) 1) (((sPiece X (cvS S0) h).1.emb x) 2)
    rw [e0, e1, e2]
    rfl
  · rw [gcc_cv X (fun i l => SM i l) (fun l => PA l) (fun l => PD l) hsm hpa hpd hcc h (by omega)]
    simp only [gW, ea]
  · rw [gcr_cv X (fun i l => SM i l) (fun l => PA l) (fun l => PD l) hsm hpa hpd hcr h (by omega)]
    simp only [gW, ea]
  · rw [beta_cv X (fun i l => SM i l) hsm h (by omega)]
    rfl
  · rw [hk, pCol_cv, eo]; rfl
  · rw [hv, pCol_cv, eo]; rfl

/-- The state after the window: the recurrence's after its 256 tokens. -/
theorem winSt_val : winSt X (cvS S0) = cvS fun h => stW SM PA PD K V S0 h 256 := by
  have hp := sPiece_val X K V SM PA PD S0 hm hcc hcr hsm hpa hpd hk hv
  funext y
  refine View.canon_apply_of_pieces _ (sList X (cvS S0)) (fun p hpm => ?_) y (sList_cover X (cvS S0) y)
  simp only [sList, List.mem_cons, List.not_mem_nil, or_false] at hpm
  rcases hpm with e | e | e | e | e | e | e | e <;> subst e <;> exact fun x => hp _ rfl rfl (by decide) x

include hq
/-- A head's piece of the outputs is the recurrence's outputs in the window. -/
theorem oPiece_val (h : Hd) (ea : h.a = 16 + h.h) (eo : h.o = 128 * h.h) (eh : h.h < 8) (x : (oPiece X (cvS S0) h).1.shape.Idx) :
    (oPiece X (cvS S0) h).2 x
      = (cv fun i j => ∑ c, cW Q (j.val / 128) i c * stW SM PA PD K V S0 (j.val / 128) (i.val + 1) c ⟨j.val % 128, Nat.mod_lt _ (by decide)⟩
          : FVec Ideal S256x1024 .f32) ((oPiece X (cvS S0) h).1.emb x) := by
  rw [oPiece_cv X (cvS S0) h (fun i => gW SM PA PD h.h i) (fun i => bW SM h.h i) (fun i => cW Q h.h i) (fun i => cW K h.h i)
    (fun i => cW V h.h i) (S0 h.h) hm ?_ ?_ ?_ ?_ ?_ ?_ (pSt_cv S0 h)]
  · refine congrArg Real.toEReal ?_
    refine (DNMath.outC_eq (n := 256) 8 (by norm_num) (gW SM PA PD h.h) (bW SM h.h) (cW Q h.h) (cW K h.h) (cW V h.h) (S0 h.h)
      (x 0) (x 1)).trans ?_
    have e0 : (((oPiece X (cvS S0) h).1.emb x) 0 : ℕ) = x 0 := by show 0 + 1 * (x 0 : ℕ) = x 0; omega
    have e1 : (((oPiece X (cvS S0) h).1.emb x) 1 : ℕ) = 128 * h.h + x 1 := by
      show h.o + 1 * (x 1 : ℕ) = _
      omega
    have h1 : (x 1 : ℕ) < 128 := (x 1).isLt
    have e2 : (((oPiece X (cvS S0) h).1.emb x) 1 : ℕ) / 128 = h.h := by omega
    have e3 : (⟨(((oPiece X (cvS S0) h).1.emb x) 1 : ℕ) % 128, Nat.mod_lt _ (by decide)⟩ : Fin 128) = x 1 :=
      Fin.ext (by dsimp only; omega)
    show _ = ∑ c, cW Q ((((oPiece X (cvS S0) h).1.emb x) 1 : ℕ) / 128) (((oPiece X (cvS S0) h).1.emb x) 0 : ℕ) c
      * stW SM PA PD K V S0 ((((oPiece X (cvS S0) h).1.emb x) 1 : ℕ) / 128) ((((oPiece X (cvS S0) h).1.emb x) 0 : ℕ) + 1) c
        (⟨(((oPiece X (cvS S0) h).1.emb x) 1 : ℕ) % 128, Nat.mod_lt _ (by decide)⟩ : Fin 128)
    rw [e2, e3, e0]
    rfl
  · rw [gcc_cv X (fun i l => SM i l) (fun l => PA l) (fun l => PD l) hsm hpa hpd hcc h (by omega)]
    simp only [gW, ea]
  · rw [gcr_cv X (fun i l => SM i l) (fun l => PA l) (fun l => PD l) hsm hpa hpd hcr h (by omega)]
    simp only [gW, ea]
  · rw [beta_cv X (fun i l => SM i l) hsm h (by omega)]
    rfl
  · rw [hq, pCol_cv, eo]; rfl
  · rw [hk, pCol_cv, eo]; rfl
  · rw [hv, pCol_cv, eo]; rfl

/-- The window's outputs: each query against the recurrence's state after its token. -/
theorem winOut_val : winOut X (cvS S0)
    = cv fun i j => ∑ c, cW Q (j.val / 128) i c * stW SM PA PD K V S0 (j.val / 128) (i.val + 1) c ⟨j.val % 128, Nat.mod_lt _ (by decide)⟩ := by
  have hp := oPiece_val X Q K V SM PA PD S0 hm hcc hcr hsm hpa hpd hq hk hv
  funext y
  refine View.canon_apply_of_pieces _ (oList X (cvS S0)) (fun p hpm => ?_) y (oList_cover X (cvS S0) y)
  simp only [oList, List.mem_cons, List.not_mem_nil, or_false] at hpm
  rcases hpm with e | e | e | e | e | e | e | e <;> subst e <;> exact fun x => hp _ rfl rfl (by decide) x
end

end Cert.DN

end

end
-- ==== Proof.DNHost.lean ====
/-
  What each grid point reads: the ten input blocks of point `t`, from the call's arguments. The arguments are given as
  arrays of reals; the masks and the per-lane gate constants are the ones the host part of the program builds.
-/
module

public import proofs.«01_k».proof.Proof.DNVal
public import Idealize.ShloMosaic.Lib.Routing.OpsSet

@[expose] public section

set_option maxRecDepth 65536

noncomputable section

namespace Cert.DN

open Cert.KernelIdeal Cert.KernelIdeal.Gen Idealize.ShloMosaic Idealize.ShloMosaic.TcCoe Idealize.SL.Sem

/-- Where the blocks of window 0 lie. -/
theorem idx_0 : ∀ t : Fin cfg0.N, win0_0.index t = ![16 + t.val, 0] :=
  (by decide +kernel : ∀ t : Fin grid0.N, _)
/-- Where the blocks of window 1 lie. -/
theorem idx_1 : ∀ t : Fin cfg0.N, win0_1.index t = ![16 + t.val, 1] :=
  (by decide +kernel : ∀ t : Fin grid0.N, _)
/-- Where the blocks of window 2 lie. -/
theorem idx_2 : ∀ t : Fin cfg0.N, win0_2.index t = ![16 + t.val, 2] :=
  (by decide +kernel : ∀ t : Fin grid0.N, _)
/-- Where the blocks of window 3 lie. -/
theorem idx_3 : ∀ t : Fin cfg0.N, win0_3.index t = ![16 + t.val, 80] :=
  (by decide +kernel : ∀ t : Fin grid0.N, _)
/-- Where the blocks of window 4 lie. -/
theorem idx_4 : ∀ t : Fin cfg0.N, win0_4.index t = ![t.val / 8, 0, 0, 0] :=
  (by decide +kernel : ∀ t : Fin grid0.N, _)
/-- Where the blocks of window 5 lie. -/
theorem idx_5 : ∀ t : Fin cfg0.N, win0_5.index t = ![0, 0] :=
  (by decide +kernel : ∀ t : Fin grid0.N, _)
/-- Where the blocks of window 6 lie. -/
theorem idx_6 : ∀ t : Fin cfg0.N, win0_6.index t = ![0, 0] :=
  (by decide +kernel : ∀ t : Fin grid0.N, _)
/-- Where the blocks of window 7 lie. -/
theorem idx_7 : ∀ t : Fin cfg0.N, win0_7.index t = ![0, 0, 0] :=
  (by decide +kernel : ∀ t : Fin grid0.N, _)
/-- Where the blocks of window 8 lie. -/
theorem idx_8 : ∀ t : Fin cfg0.N, win0_8.index t = ![0, 0] :=
  (by decide +kernel : ∀ t : Fin grid0.N, _)
/-- Where the blocks of window 9 lie. -/
theorem idx_9 : ∀ t : Fin cfg0.N, win0_9.index t = ![0, 0] :=
  (by decide +kernel : ∀ t : Fin grid0.N, _)

/-- Comparing two positions. -/
theorem slt_iota (i j : Fin 256) : IntOp.cmpi CmpIPredicate.slt (BitVec.ofNat 32 i.val) (BitVec.ofNat 32 j.val) = if i < j then 1#1 else 0#1 := by
  have hi := StableHlo.Predicate.toInt_ofNat_small i.val (by omega)
  have hj := StableHlo.Predicate.toInt_ofNat_small j.val (by omega)
  simp only [IntOp.cmpi, BitVec.slt, hi, hj, Fin.lt_def]
  by_cases h : i.val < j.val <;> simp [h]

/-- Whether two positions are equal. -/
theorem eq_nat (i j : ℕ) (hi : i < 256) (hj : j < 256) : IntOp.cmpi CmpIPredicate.eq (BitVec.ofNat 32 i) (BitVec.ofNat 32 j) = if i = j then 1#1 else 0#1 := by
  have h : (BitVec.ofNat 32 i = BitVec.ofNat 32 j) ↔ i = j := by
    rw [← BitVec.toNat_inj]; simp only [BitVec.toNat_ofNat]; omega
  simp only [IntOp.cmpi]
  by_cases hh : i = j
  · simp [hh]
  · have := mt h.1 hh
    rw [if_neg hh, beq_eq_false_iff_ne.2 this]
    rfl

/-- A position's block at a level. -/
theorem lev_div : ∀ (l : Fin 8) (i : Fin 256), IntOp.divsi ArithUnit.host (BitVec.ofNat 32 i.val)
                  (IntOp.muli (2#32) (IntOp.shli ArithUnit.host (1#32) (BitVec.ofNat 32 l.val))) = BitVec.ofNat 32 (i.val / 2 ^ (l.val + 1)) := by
  decide +kernel
/-- Whether a position is in the second half of its block at a level. -/
theorem lev_ge : ∀ (l : Fin 8) (i : Fin 256), IntOp.cmpi CmpIPredicate.sge
                (IntOp.remsi ArithUnit.host (BitVec.ofNat 32 i.val)
                  (IntOp.muli (2#32) (IntOp.shli ArithUnit.host (1#32) (BitVec.ofNat 32 l.val))))
                (IntOp.shli ArithUnit.host (1#32) (BitVec.ofNat 32 l.val)) = if i.val / 2 ^ l.val % 2 = 1 then 1#1 else 0#1 := by
  decide +kernel
/-- Whether a position is in the first half of its block at a level. -/
theorem lev_lt : ∀ (l : Fin 8) (i : Fin 256), IntOp.cmpi CmpIPredicate.slt
                (IntOp.remsi ArithUnit.host (BitVec.ofNat 32 i.val)
                  (IntOp.muli (2#32) (IntOp.shli ArithUnit.host (1#32) (BitVec.ofNat 32 l.val))))
                (IntOp.shli ArithUnit.host (1#32) (BitVec.ofNat 32 l.val)) = if i.val / 2 ^ l.val % 2 = 0 then 1#1 else 0#1 := by
  decide +kernel
variable (m : (ℓ : Loc nD τ sig) → Buf (Elt Ideal) ℓ) (c : Dev nD) (t : Fin cfg0.N)

/-- A truth value as a number. -/
theorem uitofp_ite (p : Prop) [Decidable p] : FloatOps.uitofp (F := Ideal) FTy.f32 (if p then 1#1 else 0#1) = (((if p then 1 else 0 : ℝ)) : EReal) := by
  by_cases h : p
  · rw [if_pos h, if_pos h]; show (((1#1 : BitVec 1).toNat : ℝ) : EReal) = _; norm_num
  · rw [if_neg h, if_neg h]; show (((0#1 : BitVec 1).toNat : ℝ) : EReal) = _; norm_num

/-- One truth value or the other. -/
theorem ori_ite (p q : Prop) [Decidable p] [Decidable q] : IntOp.ori (if p then 1#1 else 0#1) (if q then 1#1 else 0#1) = if p ∨ q then 1#1 else 0#1 := by
  by_cases hp : p <;> by_cases hq : q <;> simp [hp, hq] <;> rfl

/-- Both truth values. -/
theorem andi_ite (p q : Prop) [Decidable p] [Decidable q] : IntOp.andi (if p then 1#1 else 0#1) (if q then 1#1 else 0#1) = if p ∧ q then 1#1 else 0#1 := by
  by_cases hp : p <;> by_cases hq : q <;> simp [hp, hq] <;> rfl

/-- The lanes that hold the gates of the heads. -/
theorem lane_mask : ∀ x : Fin 128, IntOp.andi (IntOp.cmpi CmpIPredicate.sge (BitVec.ofNat 32 x.val) 16#32)
        (IntOp.cmpi CmpIPredicate.slt (BitVec.ofNat 32 x.val) 24#32) = if 16 ≤ x.val ∧ x.val < 24 then 1#1 else 0#1 := by
  decide +kernel

/-- The first summing matrix the kernel is handed. -/
theorem V_cc : (V m c main_v31 : FVec Ideal S256x256 .f32) = cv (φ := .f32) fun i j => if j ≤ i then 1 else 0 := by
  show StableHlo.after _ _ _ = _
  simp only [hostOps0, hostOps0_1, hostOps0_2, hostOps0_3, hostOps0_4, hostOps0_5, hostOps0_6, List.flatten_cons, List.flatten_nil, List.cons_append, List.nil_append, List.append_nil]
  simp only [StableHlo.after_cons, StableHlo.after_nil]
  after_results_simp
  funext x
  idx_vars x
  pointwise
  rw [slt_iota, eq_nat _ _ x0.isLt x1.isLt, ori_ite, uitofp_ite]
  simp only [cv, Fin.le_def, Fin.lt_def]
  congr 2
  apply propext
  show _ ↔ x1.val ≤ x0.val
  omega

/-- The second summing matrix the kernel is handed. -/
theorem V_cr : (V m c main_v32 : FVec Ideal S256x256 .f32) = cv (φ := .f32) fun i j => if i ≤ j then 1 else 0 := by
  show StableHlo.after _ _ _ = _
  simp only [hostOps0, hostOps0_1, hostOps0_2, hostOps0_3, hostOps0_4, hostOps0_5, hostOps0_6, List.flatten_cons, List.flatten_nil, List.cons_append, List.nil_append, List.append_nil]
  simp only [StableHlo.after_cons, StableHlo.after_nil]
  after_results_simp
  funext x
  idx_vars x
  pointwise
  rw [slt_iota, eq_nat _ _ x1.isLt x0.isLt, ori_ite, uitofp_ite]
  simp only [cv, Fin.le_def, Fin.lt_def]
  congr 2
  apply propext
  show _ ↔ x0.val ≤ x1.val
  omega

/-- The masks the kernel is handed. -/
theorem V_m7 : (V m c main_v30 : FVec Ideal S10x256x256 .f32) = tabV := by
  show StableHlo.after _ _ _ = _
  simp only [hostOps0, hostOps0_1, hostOps0_2, hostOps0_3, hostOps0_4, hostOps0_5, hostOps0_6, List.flatten_cons, List.flatten_nil, List.cons_append, List.nil_append, List.append_nil]
  simp only [StableHlo.after_cons, StableHlo.after_nil]
  after_results_simp
  funext x
  idx_vars x
  pointwise [tabV]
  after_results_simp
  pointwise
  by_cases h0 : x0.val = 0
  · rw [dif_pos (show x0.val < 1 by omega), slt_iota, uitofp_ite]
    simp only [tabR, if_pos h0]
  rw [dif_neg (show ¬x0.val < 1 by omega)]
  by_cases h1 : x0.val = 1
  · rw [dif_pos (show x0.val - 1 < 1 by omega), slt_iota, eq_nat _ _ x1.isLt x2.isLt, ori_ite, uitofp_ite]
    simp only [tabR, if_neg h0, if_pos h1]
    congr 2
    simp only [Fin.le_def, Fin.lt_def]
    apply propext
    omega
  rw [dif_neg (show ¬x0.val - 1 < 1 by omega)]
  have hb : ∀ (i : Fin 256) (n : ℕ), i.val / n < 256 := fun i n => lt_of_le_of_lt (Nat.div_le_self _ _) i.isLt
  have d1 := lev_div ⟨x0.val - 1 - 1, by omega⟩ x1
  have d2 := lev_div ⟨x0.val - 1 - 1, by omega⟩ x2
  have g1 := lev_ge ⟨x0.val - 1 - 1, by omega⟩ x1
  have g2 := lev_lt ⟨x0.val - 1 - 1, by omega⟩ x2
  dsimp only at d1 d2 g1 g2
  rw [d1, d2, g1, g2, eq_nat _ _ (hb _ _) (hb _ _), andi_ite, andi_ite, uitofp_ite]
  simp only [tabR, if_neg h0, if_neg h1, DNMath.lvl, Nat.sub_sub, and_assoc]

/-- The head whose parameter a lane takes. -/
theorem lane_idx : ∀ x : Fin 128, 16 ≤ x.val ∧ x.val < 24 → Scalar.select
   (IntOp.cmpi CmpIPredicate.slt (IntOp.minsi (7#32) (IntOp.maxsi (0#32) (IntOp.subi (BitVec.ofNat 32 x.val) (16#32)))) 0#32)
   (IntOp.addi (IntOp.minsi (7#32) (IntOp.maxsi (0#32) (IntOp.subi (BitVec.ofNat 32 x.val) (16#32)))) (8#32))
   (IntOp.minsi (7#32) (IntOp.maxsi (0#32) (IntOp.subi (BitVec.ofNat 32 x.val) (16#32)))) = BitVec.ofNat 32 (x.val - 16) := by
  decide +kernel

/-- Taking from eight numbers. -/
theorem take8 (x : FVec Ideal S8 .f32) (idx : IVec S128x1 32) (p : Fin 128) (b : Fin 8) (hb : idx (ix2 p (0 : Fin 1)) = BitVec.ofNat 32 b.val) :
    Host.gather gather_S8_S128x1_S128_n_0_n_n_0_1_1 x idx (ix1 p) = x (ix1 b) :=
  Routing.gather_take1 gather_S8_S128x1_S128_n_0_n_n_0_1_1 rfl rfl rfl rfl x idx p b hb (by decide)

/-- The decay parameters the kernel is handed. -/
theorem V_pa (A : ℕ → ℝ)
    (h : m ((c : Thread nD τ).loc main_arg3) = fun i => ((A (i 0).val : ℝ) : EReal)) :
    (V m c main_v52 : FVec Ideal S1x128 .f32) = cv (φ := .f32) fun _ l => if 16 ≤ l.val ∧ l.val < 24 then 0 - Real.exp (A (l.val - 16)) else 0 := by
  show StableHlo.after _ _ _ = _
  simp only [hostOps0, hostOps0_1, hostOps0_2, hostOps0_3, hostOps0_4, hostOps0_5, hostOps0_6, List.flatten_cons, List.flatten_nil, List.cons_append, List.nil_append, List.append_nil]
  simp only [StableHlo.after_cons, StableHlo.after_nil]
  after_results_simp
  simp only [StableHlo.TRef.toBuf, StableHlo.TRef.ofBuf, cast_cast, cast_eq, id_eq]
  funext x
  idx_vars x
  pointwise
  rw [lane_mask]
  by_cases hx : 16 ≤ x1.val ∧ x1.val < 24
  · rw [if_pos hx, show ∀ a b : EReal, Scalar.select (1#1) a b = a from fun _ _ => rfl]
    refine (congrArg (fun a : EReal => -a) (take8 _ _ x1 ⟨x1.val - 16, by omega⟩ (by pointwise; exact lane_idx x1 hx))).trans ?_
    pointwise
    simp only [cv]
    rw [if_pos (show 16 ≤ (ix2 x0 x1 1).val ∧ (ix2 x0 x1 1).val < 24 from hx)]
    refine (congrArg (fun v : EReal => -Ideal.exp v) (congrFun h _)).trans ?_
    show -Ideal.exp ((A (x1.val - 16) : ℝ) : EReal) = ((0 - Real.exp (A (x1.val - 16)) : ℝ) : EReal)
    rw [exp_coe, zero_sub, EReal.coe_neg]
  · rw [if_neg hx]
    simp only [cv]
    rw [if_neg (show ¬(16 ≤ (ix2 x0 x1 1).val ∧ (ix2 x0 x1 1).val < 24) from hx)]
    rfl

/-- The time-step biases the kernel is handed. -/
theorem V_pd (A : ℕ → ℝ)
    (h : m ((c : Thread nD τ).loc main_arg4) = fun i => ((A (i 0).val : ℝ) : EReal)) :
    (V m c main_v61 : FVec Ideal S1x128 .f32) = cv (φ := .f32) fun _ l => if 16 ≤ l.val ∧ l.val < 24 then A (l.val - 16) else 0 := by
  show StableHlo.after _ _ _ = _
  simp only [hostOps0, hostOps0_1, hostOps0_2, hostOps0_3, hostOps0_4, hostOps0_5, hostOps0_6, List.flatten_cons, List.flatten_nil, List.cons_append, List.nil_append, List.append_nil]
  simp only [StableHlo.after_cons, StableHlo.after_nil]
  after_results_simp
  simp only [StableHlo.TRef.toBuf, StableHlo.TRef.ofBuf, cast_cast, cast_eq, id_eq]
  funext x
  idx_vars x
  pointwise
  rw [lane_mask]
  by_cases hx : 16 ≤ x1.val ∧ x1.val < 24
  · rw [if_pos hx, show ∀ a b : EReal, Scalar.select (1#1) a b = a from fun _ _ => rfl]
    refine ( (take8 _ _ x1 ⟨x1.val - 16, by omega⟩ (by pointwise; exact lane_idx x1 hx))).trans ?_
    pointwise
    simp only [cv]
    rw [if_pos (show 16 ≤ (ix2 x0 x1 1).val ∧ (ix2 x0 x1 1).val < 24 from hx)]
    exact congrFun h _
  · rw [if_neg hx]
    simp only [cv]
    rw [if_neg (show ¬(16 ≤ (ix2 x0 x1 1).val ∧ (ix2 x0 x1 1).val < 24) from hx)]
    rfl
/-- A block of the queries. -/
theorem blk_q (A : ℕ → ℕ → ℝ)
    (h : m ((c : Thread nD τ).loc main_arg0) = fun i => ((A (i 0).val (i 1).val : ℝ) : EReal)) :
    (iblk m c 0 t : FVec Ideal S256x1024 .f32) = cv (φ := .f32) fun i j => A (4096 + 256 * t.val + i.val) (j.val) := by
  funext x
  blk_simp [iblk, idx_0]
  rw [V_main_arg0, h]
  simp only [cv]
  blk_simp [idx_0]
  rw [show (16 + t.val) * 256 + (x 0).val = 4096 + 256 * t.val + (x 0).val by omega]

/-- A block of the keys. -/
theorem blk_k (A : ℕ → ℕ → ℝ)
    (h : m ((c : Thread nD τ).loc main_arg0) = fun i => ((A (i 0).val (i 1).val : ℝ) : EReal)) :
    (iblk m c 1 t : FVec Ideal S256x1024 .f32) = cv (φ := .f32) fun i j => A (4096 + 256 * t.val + i.val) (1024 + j.val) := by
  funext x
  blk_simp [iblk, idx_1]
  rw [V_main_arg0, h]
  simp only [cv]
  blk_simp [idx_1]
  rw [show (16 + t.val) * 256 + (x 0).val = 4096 + 256 * t.val + (x 0).val by omega]

/-- A block of the values. -/
theorem blk_v (A : ℕ → ℕ → ℝ)
    (h : m ((c : Thread nD τ).loc main_arg0) = fun i => ((A (i 0).val (i 1).val : ℝ) : EReal)) :
    (iblk m c 2 t : FVec Ideal S256x1024 .f32) = cv (φ := .f32) fun i j => A (4096 + 256 * t.val + i.val) (2048 + j.val) := by
  funext x
  blk_simp [iblk, idx_2]
  rw [V_main_arg0, h]
  simp only [cv]
  blk_simp [idx_2]
  rw [show (16 + t.val) * 256 + (x 0).val = 4096 + 256 * t.val + (x 0).val by omega]

/-- A block of the gate columns. -/
theorem blk_sm (A : ℕ → ℕ → ℝ)
    (h : m ((c : Thread nD τ).loc main_arg1) = fun i => ((A (i 0).val (i 1).val : ℝ) : EReal)) :
    (iblk m c 3 t : FVec Ideal S256x128 .f32) = cv (φ := .f32) fun i j => A (4096 + 256 * t.val + i.val) (10240 + j.val) := by
  funext x
  blk_simp [iblk, idx_3]
  rw [V_main_arg1, h]
  simp only [cv]
  blk_simp [idx_3]
  rw [show (16 + t.val) * 256 + (x 0).val = 4096 + 256 * t.val + (x 0).val by omega]

/-- The block of the initial states. -/
theorem blk_st (A : ℕ → ℕ → ℕ → ℕ → ℝ)
    (h : m ((c : Thread nD τ).loc main_arg2) = fun i => ((A (i 0).val (i 1).val (i 2).val (i 3).val : ℝ) : EReal)) :
    k0_pay3 (F := Ideal) (iblk m c 4 t) = cvS fun h d e => A (t.val / 8) h d.val e.val := by
  funext x
  idx_vars x
  pointwise [k0_pay3, cvS]
  blk_simp [iblk, idx_4]
  rw [V_main_arg2, h]
  blk_simp [idx_4]
  rfl

/-- The block of the decay parameters. -/
theorem blk_pa (A : ℕ → ℝ)
    (h : m ((c : Thread nD τ).loc main_arg3) = fun i => ((A (i 0).val : ℝ) : EReal)) : (iblk m c 5 t : FVec Ideal S1x128 .f32) = cv (φ := .f32) fun _ l => if 16 ≤ l.val ∧ l.val < 24 then 0 - Real.exp (A (l.val - 16)) else 0 := by
  refine Eq.trans ?_ (V_pa m c A h)
  funext x
  blk_simp [iblk, idx_5]
  blk_ext [idx_5]

/-- The block of the time-step biases. -/
theorem blk_pd (A : ℕ → ℝ)
    (h : m ((c : Thread nD τ).loc main_arg4) = fun i => ((A (i 0).val : ℝ) : EReal)) : (iblk m c 6 t : FVec Ideal S1x128 .f32) = cv (φ := .f32) fun _ l => if 16 ≤ l.val ∧ l.val < 24 then A (l.val - 16) else 0 := by
  refine Eq.trans ?_ (V_pd m c A h)
  funext x
  blk_simp [iblk, idx_6]
  blk_ext [idx_6]

/-- The block of the masks. -/
theorem blk_m7 : (iblk m c 7 t : FVec Ideal S10x256x256 .f32) = tabV := by
  refine Eq.trans ?_ (V_m7 m c)
  funext x
  blk_simp [iblk, idx_7]
  blk_ext [idx_7]

/-- The block of the first summing matrix. -/
theorem blk_cc : (iblk m c 8 t : FVec Ideal S256x256 .f32) = cv (φ := .f32) fun i j => if j ≤ i then 1 else 0 := by
  refine Eq.trans ?_ (V_cc m c)
  funext x
  blk_simp [iblk, idx_8]
  blk_ext [idx_8]

/-- The block of the second summing matrix. -/
theorem blk_cr : (iblk m c 9 t : FVec Ideal S256x256 .f32) = cv (φ := .f32) fun i j => if i ≤ j then 1 else 0 := by
  refine Eq.trans ?_ (V_cr m c)
  funext x
  blk_simp [iblk, idx_9]
  blk_ext [idx_9]

end Cert.DN

end

end
-- ==== Proof.DNFold.lean ====
/-
  The whole call, point by point: after each window the kept state is the recurrence's state, the output rows are the
  recurrence's rows, and so the two result arrays are the recurrence's outputs and final states.
-/
module

public import proofs.«01_k».proof.Proof.DNHost

@[expose] public section

set_option maxRecDepth 16384

noncomputable section

namespace Cert.DN

open Cert.KernelIdeal Cert.KernelIdeal.Gen Idealize.ShloMosaic Idealize.ShloMosaic.TcCoe Idealize.SL.Sem

/-- The call's five arguments as reals, addressed by numbers: the projected rows, the gate rows, the initial states, and
    the two per-head gate parameters. -/
structure Nums where
  x : ℕ → ℕ → ℝ
  p : ℕ → ℕ → ℝ
  s : ℕ → ℕ → ℕ → ℕ → ℝ
  a : ℕ → ℝ
  d : ℕ → ℝ

namespace Nums

variable (N : Nums)

/-- Sequence `b`'s log decay at token `i`, head `h`. -/
def g (b h i : ℕ) : ℝ := (0 - Real.exp (N.a h)) * sp (N.p (4096 + 2048 * b + i) (10240 + (16 + h)) + N.d h)
/-- Sequence `b`'s write strength at token `i`, head `h`. -/
def beta (b h i : ℕ) : ℝ := sg (N.p (4096 + 2048 * b + i) (10240 + h))
/-- Row `i` of head `h` of sequence `b`: the queries (`o = 0`), keys (`o = 1024`) or values (`o = 2048`). -/
def row (o b h i : ℕ) (e : Fin 128) : ℝ := N.x (4096 + 2048 * b + i) (o + (128 * h + e))
/-- The state of head `h` of sequence `b` after `t` tokens of the recurrence. -/
def st (b h t : ℕ) : Fin 128 → Fin 128 → ℝ :=
  DNMath.stateAt (N.g b h) (N.beta b h) (N.row 1024 b h) (N.row 2048 b h) (fun d e => N.s b h d e) t
/-- The recurrence's output at token `i`, lane `e` of head `h`. -/
def out (b h i : ℕ) (e : Fin 128) : ℝ := ∑ c, N.row 0 b h i c * N.st b h (i + 1) c e

end Nums

/-- The arrays `m` holds are the numbers `N`. -/
structure Args (m : (ℓ : Loc nD τ sig) → Buf (Elt Ideal) ℓ) (c : Dev nD) (N : Nums) : Prop where
  h0 : m ((c : Thread nD τ).loc main_arg0) = fun i => ((N.x (i 0).val (i 1).val : ℝ) : EReal)
  h1 : m ((c : Thread nD τ).loc main_arg1) = fun i => ((N.p (i 0).val (i 1).val : ℝ) : EReal)
  h2 : m ((c : Thread nD τ).loc main_arg2) =
    fun i => ((N.s (i 0).val (i 1).val (i 2).val (i 3).val : ℝ) : EReal)
  h3 : m ((c : Thread nD τ).loc main_arg3) = fun i => ((N.a (i 0).val : ℝ) : EReal)
  h4 : m ((c : Thread nD τ).loc main_arg4) = fun i => ((N.d (i 0).val : ℝ) : EReal)

/-- Running the recurrence on the rows from `s` on, from the state after `s` tokens, is running it on. -/
theorem st_shift (N : Nums) (b h s t : ℕ) :
    DNMath.stateAt (fun i => N.g b h (s + i)) (fun i => N.beta b h (s + i)) (fun i => N.row 1024 b h (s + i))
      (fun i => N.row 2048 b h (s + i)) (N.st b h s) t = N.st b h (s + t) :=
  DNMath.stateAt_add _ _ _ _ _ _ _

variable {m : (ℓ : Loc nD τ sig) → Buf (Elt Ideal) ℓ} {c : Dev nD} {N : Nums}

/-- The window's per-lane gate constants. -/
def paR (N : Nums) (l : ℕ) : ℝ := if 16 ≤ l ∧ l < 24 then 0 - Real.exp (N.a (l - 16)) else 0
/-- The time-step biases of the eight heads, in the lanes the kernel reads them from. -/
def pdR (N : Nums) (l : ℕ) : ℝ := if 16 ≤ l ∧ l < 24 then N.d (l - 16) else 0

/-- The window recurrence of point `t` is the sequence's recurrence from the window's first token. -/
theorem stW_eq (N : Nums) (t h : ℕ) (hh : h < 8) (S : ℕ → Fin 128 → Fin 128 → ℝ)
    (hS : S h = N.st (t / 8) h (256 * (t % 8))) (n : ℕ) :
    stW (fun i l => N.p (4096 + 256 * t + i) (10240 + l)) (paR N) (pdR N)
      (fun i j => N.x (4096 + 256 * t + i) (1024 + j)) (fun i j => N.x (4096 + 256 * t + i) (2048 + j)) S h n
      = N.st (t / 8) h (256 * (t % 8) + n) := by
  rw [← st_shift, ← hS]
  have e : ∀ i, 4096 + 256 * t + i = 4096 + 2048 * (t / 8) + (256 * (t % 8) + i) := fun i => by omega
  have hg : gW (fun i l => N.p (4096 + 256 * t + i) (10240 + l)) (paR N) (pdR N) h
      = fun i => N.g (t / 8) h (256 * (t % 8) + i) := by
    funext i
    simp only [gW, paR, pdR, Nums.g, e, Nat.add_sub_cancel_left]
    rw [if_pos (by omega), if_pos (by omega)]
  have hb : bW (fun i l => N.p (4096 + 256 * t + i) (10240 + l)) h
      = fun i => N.beta (t / 8) h (256 * (t % 8) + i) := by
    funext i
    simp only [bW, Nums.beta, e]
  have hr : ∀ o, cW (fun i j => N.x (4096 + 256 * t + i) (o + j)) h
      = fun i => N.row o (t / 8) h (256 * (t % 8) + i) := by
    intro o; funext i l
    simp only [cW, Nums.row, e]
  unfold stW
  rw [hg, hb, hr, hr]

/-- The blocks `X` are those of point `t`, as reals. -/
structure Fits (N : Nums) (t : ℕ) (X : Blk) : Prop where
  hm : X.msk = tabV
  hcc : X.cc = cv (φ := .f32) fun i j => if j ≤ i then 1 else 0
  hcr : X.cr = cv (φ := .f32) fun j i => if j ≤ i then 1 else 0
  hsm : X.sm = cv (φ := .f32) fun i l => N.p (4096 + 256 * t + i.val) (10240 + l.val)
  hpa : X.pa = cv (φ := .f32) fun _ l => paR N l.val
  hpd : X.pdt = cv (φ := .f32) fun _ l => pdR N l.val
  hq : X.q = cv (φ := .f32) fun i j => N.x (4096 + 256 * t + i.val) j.val
  hk : X.k = cv (φ := .f32) fun i j => N.x (4096 + 256 * t + i.val) (1024 + j.val)
  hv : X.v = cv (φ := .f32) fun i j => N.x (4096 + 256 * t + i.val) (2048 + j.val)

/-- The masks of a window are the table. -/
theorem fit_msk (A : Args m c N) (t : Fin cfg0.N) : (blk m c t).msk = tabV :=
  blk_m7 m c t
/-- The matrix that sums the decays downwards. -/
theorem fit_cc (A : Args m c N) (t : Fin cfg0.N) : (blk m c t).cc = cv (φ := .f32) fun i j => if j ≤ i then 1 else 0 :=
  blk_cc m c t
set_option maxHeartbeats 2000000 in
/-- The matrix that sums the decays along a row. -/
theorem fit_cr (A : Args m c N) (t : Fin cfg0.N) : (blk m c t).cr = cv (φ := .f32) fun j i => if j ≤ i then 1 else 0 :=
  (show (blk m c t).cr = (iblk m c 9 t : FVec Ideal S256x256 .f32) from rfl).trans (blk_cr m c t)
/-- The gate columns of a window. -/
theorem fit_sm (A : Args m c N) (t : Fin cfg0.N) : (blk m c t).sm = cv (φ := .f32) fun i l => N.p (4096 + 256 * t.val + i.val) (10240 + l.val) :=
  blk_sm m c t N.p A.h1
/-- The decay parameters of a window. -/
theorem fit_pa (A : Args m c N) (t : Fin cfg0.N) : (blk m c t).pa = cv (φ := .f32) fun _ l => paR N l.val :=
  blk_pa m c t N.a A.h3
/-- The time-step biases of a window. -/
theorem fit_pdt (A : Args m c N) (t : Fin cfg0.N) : (blk m c t).pdt = cv (φ := .f32) fun _ l => pdR N l.val :=
  blk_pd m c t N.d A.h4
/-- The queries of a window. -/
theorem fit_q (A : Args m c N) (t : Fin cfg0.N) : (blk m c t).q = cv (φ := .f32) fun i j => N.x (4096 + 256 * t.val + i.val) j.val :=
  blk_q m c t N.x A.h0
/-- The keys of a window. -/
theorem fit_k (A : Args m c N) (t : Fin cfg0.N) : (blk m c t).k = cv (φ := .f32) fun i j => N.x (4096 + 256 * t.val + i.val) (1024 + j.val) :=
  blk_k m c t N.x A.h0
/-- The values of a window. -/
theorem fit_v (A : Args m c N) (t : Fin cfg0.N) : (blk m c t).v = cv (φ := .f32) fun i j => N.x (4096 + 256 * t.val + i.val) (2048 + j.val) :=
  blk_v m c t N.x A.h0
/-- Every block of a window is what the numbers say. -/
theorem blk_fits (A : Args m c N) (t : Fin cfg0.N) : Fits N t.val (blk m c t) where
  hm := fit_msk A t
  hcc := fit_cc A t
  hcr := fit_cr A t
  hsm := fit_sm A t
  hpa := fit_pa A t
  hpd := fit_pdt A t
  hq := fit_q A t
  hk := fit_k A t
  hv := fit_v A t

/-- One window's state. -/
theorem pt_st (t : ℕ) (X : Blk) (f : Fits N t X) :
    winSt X (cvS fun h => N.st (t / 8) h (256 * (t % 8))) = (cvS fun h => N.st (t / 8) h (256 * (t % 8) + 256)) := by
  rw [winSt_val X (fun i j => N.x (4096 + 256 * t + i) (1024 + j))
      (fun i j => N.x (4096 + 256 * t + i) (2048 + j)) (fun i l => N.p (4096 + 256 * t + i) (10240 + l))
      (paR N) (pdR N) _ f.hm f.hcc f.hcr f.hsm f.hpa f.hpd f.hk f.hv]
  funext i
  have hh : (i 0).val < 8 := (i 0).isLt
  simp only [cvS]
  rw [stW_eq N t _ hh _ rfl]

/-- One window's rows. -/
theorem pt_out (t : ℕ) (X : Blk) (f : Fits N t X) :
    winOut X (cvS fun h => N.st (t / 8) h (256 * (t % 8))) = cv (φ := .f32) fun i j =>
      N.out (t / 8) (j.val / 128) (256 * (t % 8) + i.val) ⟨j.val % 128, Nat.mod_lt _ (by decide)⟩ := by
  rw [winOut_val X (fun i j => N.x (4096 + 256 * t + i) j) (fun i j => N.x (4096 + 256 * t + i) (1024 + j))
      (fun i j => N.x (4096 + 256 * t + i) (2048 + j)) (fun i l => N.p (4096 + 256 * t + i) (10240 + l))
      (paR N) (pdR N) _ f.hm f.hcc f.hcr f.hsm f.hpa f.hpd f.hq f.hk f.hv]
  congr 1
  funext i j
  unfold Nums.out
  refine Finset.sum_congr rfl fun e _ => ?_
  rw [stW_eq N t (j.val / 128) (by omega) _ rfl]
  simp only [cW, Nums.row, Nat.zero_add]
  rw [show 4096 + 256 * t + i.val = 4096 + 2048 * (t / 8) + (256 * (t % 8) + i.val) by omega]
  rfl

/-- One window: from the recurrence's state at the window's first token, its rows and its state at the next window. -/
theorem pt_step (A : Args m c N) (t : Fin cfg0.N) (S : FVec Ideal S8x128x128 .f32)
    (hS : S = cvS fun h => N.st (t.val / 8) h (256 * (t.val % 8))) :
    winSt (blk m c t) S = (cvS fun h => N.st (t.val / 8) h (256 * (t.val % 8) + 256)) ∧
    winOut (blk m c t) S = cv (φ := .f32) fun i j =>
      N.out (t.val / 8) (j.val / 128) (256 * (t.val % 8) + i.val) ⟨j.val % 128, Nat.mod_lt _ (by decide)⟩ := by
  rw [hS]
  exact ⟨pt_st t.val _ (blk_fits A t), pt_out t.val _ (blk_fits A t)⟩

/-- After every point: the state and the rows are the recurrence's. -/
theorem pt (A : Args m c N) : ∀ (n : ℕ) (hn : n < cfg0.N),
    (outsAt0 m c n hn).2.2 = (cvS fun h => N.st (n / 8) h (256 * (n % 8) + 256)) ∧
    (outsAt0 m c n hn).1 = cv (φ := .f32) fun i j =>
      N.out (n / 8) (j.val / 128) (256 * (n % 8) + i.val) ⟨j.val % 128, Nat.mod_lt _ (by decide)⟩ := by
  intro n
  induction n with
  | zero =>
    intro hn
    have a := at_first m c ⟨0, hn⟩ rfl
    have s := pt_step A ⟨0, hn⟩ _ (blk_st m c ⟨0, hn⟩ N.s A.h2)
    exact ⟨a.2.trans s.1, a.1.trans s.2⟩
  | succ k ih =>
    intro hn
    by_cases h0 : (k + 1) % 8 = 0
    · have a := at_first m c ⟨k + 1, hn⟩ h0
      have s := pt_step A ⟨k + 1, hn⟩ _ ((blk_st m c ⟨k + 1, hn⟩ N.s A.h2).trans (by
        funext i; simp only [cvS, h0]; rfl))
      exact ⟨a.2.trans s.1, a.1.trans s.2⟩
    · have a := at_next m c ⟨k + 1, hn⟩ h0
      have s := pt_step A ⟨k + 1, hn⟩ _ ((ih (by omega)).1.trans (by
        have e1 : k / 8 = (k + 1) / 8 := by omega
        have e2 : 256 * (k % 8) + 256 = 256 * ((k + 1) % 8) := by omega
        rw [e1, e2]))
      exact ⟨a.2.trans s.1, a.1.trans s.2⟩

/-- The output array: every row of every sequence is the recurrence's output. -/
theorem g10 (A : Args m c N) : Cert.KernelIdeal.Value.G10 m c = fun i =>
    ((N.out ((i 0).val / 2048) ((i 1).val / 128) ((i 0).val % 2048) ⟨(i 1).val % 128, Nat.mod_lt _ (by decide)⟩ : ℝ) : EReal) := by
  funext i
  have b0 : (i 0).val < 16384 := (i 0).isLt
  have b1 : (i 1).val < 1024 := (i 1).isLt
  have hp : Cert.KernelIdeal.Value.pt10Of i = (i 0).val / 256 := by
    show 1 * ((i 0).val / 256 - 0) + 1 * ((i 1).val / 1024 - 0) = _
    omega
  have hN : Cert.KernelIdeal.Value.pt10Of i < cfg0.N := by rw [hp, show cfg0.N = 64 from N_0]; omega
  unfold Cert.KernelIdeal.Value.G10
  rw [dif_pos hN, ← Cert.KernelIdeal.Value.outsAt0_sweep m c _ hN, (pt A _ hN).2]
  rw [hp]
  show ((N.out ((i 0).val / 256 / 8) ((i 1).val % 1024 / 128) (256 * ((i 0).val / 256 % 8) + (i 0).val % 256)
    ⟨(i 1).val % 1024 % 128, _⟩ : ℝ) : EReal) = _
  have e1 : (i 0).val / 256 / 8 = (i 0).val / 2048 := by omega
  have e2 : 256 * ((i 0).val / 256 % 8) + (i 0).val % 256 = (i 0).val % 2048 := by omega
  have e3 : (i 1).val % 1024 = (i 1).val := Nat.mod_eq_of_lt b1
  simp only [e1, e2, e3]

/-- The state array: every sequence's state after its last token. -/
theorem g11 (A : Args m c N) : Cert.KernelIdeal.Value.G11 m c = fun i =>
    ((N.st (i 0).val (i 1).val 2048 (i 2) (i 3) : ℝ) : EReal) := by
  funext i
  have b0 : (i 0).val < 8 := (i 0).isLt
  have b1 : (i 1).val < 8 := (i 1).isLt
  have b2 : (i 2).val < 128 := (i 2).isLt
  have b3 : (i 3).val < 128 := (i 3).isLt
  have hp : Cert.KernelIdeal.Value.pt11Of i = 8 * (i 0).val + 7 := by
    show 8 * (1 * ((i 0).val / 1 - 0) + 1 * ((i 1).val / 8 - 0) + 1 * ((i 2).val / 128 - 0) + 1 * ((i 3).val / 128 - 0)) + 7 = _
    omega
  have hN : Cert.KernelIdeal.Value.pt11Of i < cfg0.N := by rw [hp, show cfg0.N = 64 from N_0]; omega
  have hl := at_last m c ⟨_, hN⟩ (by show Cert.KernelIdeal.Value.pt11Of i % 8 = 7; omega)
  unfold Cert.KernelIdeal.Value.G11
  rw [dif_pos hN, ← Cert.KernelIdeal.Value.outsAt0_sweep m c _ hN]
  refine (congrFun hl _).trans ?_
  dsimp only
  rw [(pt A _ hN).1, hp]
  have e1 : (8 * (i 0).val + 7) / 8 = (i 0).val := by omega
  have e2 : 256 * ((8 * (i 0).val + 7) % 8) + 256 = 2048 := by omega
  rw [e1, e2]
  have hk : ∀ (S : FVec Ideal S8x128x128 .f32) (j : S1x8x128x128.Idx), k0_pay2 (F := Ideal) S j = S (ix3 (j 1) (j 2) (j 3)) := by
    intro S j
    idx_vars j
    pointwise [k0_pay2]
  refine (hk _ _).trans ?_
  show ((N.st (i 0).val ((i 1).val % 8) 2048 ⟨(i 2).val % 128, _⟩ ⟨(i 3).val % 128, _⟩ : ℝ) : EReal) = _
  have e3 : (i 1).val % 8 = (i 1).val := Nat.mod_eq_of_lt b1
  have e4 : (⟨(i 2).val % 128, Nat.mod_lt _ (by decide)⟩ : Fin 128) = i 2 := Fin.ext (Nat.mod_eq_of_lt b2)
  have e5 : (⟨(i 3).val % 128, Nat.mod_lt _ (by decide)⟩ : Fin 128) = i 3 := Fin.ext (Nat.mod_eq_of_lt b3)
  rw [e3, e4, e5]

end Cert.DN

end

end
-- ==== Proof.DNPre.lean ====
module

public import proofs.«01_k».proof.Defs
public import proofs.«01_k».proof.Proof.DNFold
public import Idealize.ShloMosaic.Lib.ReduceAll
public import Idealize.ShloMosaic.Lib.Pointwise

@[expose] public section

set_option maxRecDepth 16384

noncomputable section

namespace Cert.DNPre

open Idealize.ShloMosaic Idealize.ShloMosaic.TcCoe Idealize.SL.Sem Cert.DN

/-- The shape relations of the precondition's operations. -/
theorem facts : Cert.Pre_finite.Facts where
  bcast_S_S20480x3072 := by decide
  reducesTo_S20480x3072_S_d0_1 := by decide
  h_S_ := by decide
  bcast_S_S20480x10368 := by decide
  reducesTo_S20480x10368_S_d0_1 := by decide
  bcast_S_S8x8x128x128 := by decide
  reducesTo_S8x8x128x128_S_d0_1_2_3 := by decide
  bcast_S_S8 := by decide
  reducesTo_S8_S_d0 := by decide

/-- Two bits whose conjunction is one are both one. -/
theorem and_one : ∀ a b : BitVec 1, IntOp.andi a b = 1#1 → a = 1#1 ∧ b = 1#1 := by decide

/-- A number whose absolute value lies below infinity is real. -/
theorem real_of_abs (a : EReal) (h : max a (-a) < ⊤) : a = ((a.toReal : ℝ) : EReal) := by
  refine (EReal.coe_toReal ?_ ?_).symm
  · rintro rfl
    simp at h
  · rintro rfl
    simp at h

/-- An array all of whose absolute values lie below infinity holds reals. -/
theorem all_real {s : Shape} {axes : List (Fin s.rank)} (x : FVec Ideal s .f32)
    (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf x)
      (broadcastInDim s ![] hb (constant (F := Ideal) Cert.Pre_finite.S_ .f32 0x7F800000#32)))
      (constantI Cert.Pre_finite.S_ 1 1#1) hr hu j = 1#1) (i : s.Idx) : x i = (((x i).toReal : ℝ) : EReal) := by
  haveI : Subsingleton Cert.Pre_finite.S_.Idx := ⟨fun a b => funext fun k => k.elim0⟩
  have e := Host.reduce_andi_all _ _ hr hu j h i
  refine real_of_abs (x i) ?_
  revert e
  pointwise
  rw [show Ideal.ofBits .f32 2139095040#32 = (⊤ : EReal) by simp [Ideal.ofBits, Ideal.ieee]]
  intro e
  by_contra hn
  rw [decide_eq_false (show ¬ FloatOps.absf (F := Ideal) (φ := .f32) (x i) < ⊤ from hn)] at e
  exact absurd e (by decide)

section
variable (m : (ℓ : Loc Cert.KernelIdeal.nD Cert.KernelIdeal.τ Cert.KernelIdeal.sig) → Buf (Elt Ideal) ℓ)
  (c : Dev Cert.KernelIdeal.nD)

/-- The real numbers the argument arrays hold (past an array's end, those of the position taken modulo its size). -/
def nums : Nums where
  x r l := EReal.toReal (m ((c.tc : Thread Cert.KernelIdeal.nD Cert.KernelIdeal.τ).loc Cert.KernelIdeal.main_arg0)
    (ix2 ⟨r % 20480, Nat.mod_lt _ (by norm_num)⟩ ⟨l % 3072, Nat.mod_lt _ (by norm_num)⟩))
  p r l := EReal.toReal (m ((c.tc : Thread Cert.KernelIdeal.nD Cert.KernelIdeal.τ).loc Cert.KernelIdeal.main_arg1)
    (ix2 ⟨r % 20480, Nat.mod_lt _ (by norm_num)⟩ ⟨l % 10368, Nat.mod_lt _ (by norm_num)⟩))
  s b h d e := EReal.toReal (m ((c.tc : Thread Cert.KernelIdeal.nD Cert.KernelIdeal.τ).loc Cert.KernelIdeal.main_arg2)
    (ix4 ⟨b % 8, Nat.mod_lt _ (by norm_num)⟩ ⟨h % 8, Nat.mod_lt _ (by norm_num)⟩
      ⟨d % 128, Nat.mod_lt _ (by norm_num)⟩ ⟨e % 128, Nat.mod_lt _ (by norm_num)⟩))
  a h := EReal.toReal (m ((c.tc : Thread Cert.KernelIdeal.nD Cert.KernelIdeal.τ).loc Cert.KernelIdeal.main_arg3)
    (ix1 ⟨h % 8, Nat.mod_lt _ (by norm_num)⟩))
  d h := EReal.toReal (m ((c.tc : Thread Cert.KernelIdeal.nD Cert.KernelIdeal.τ).loc Cert.KernelIdeal.main_arg4)
    (ix1 ⟨h % 8, Nat.mod_lt _ (by norm_num)⟩))

/-- Under the precondition the argument arrays hold those real numbers. -/
theorem args [hPre_finite : Cert.Pre_finite.Facts] (h : Cert.Pre_KernelIdeal_finite m) : Args m c (nums m c) := by
  have h := congrFun (h c) (Shape.Idx.first hPre_finite.h_S_)
  obtain ⟨h, e4⟩ := and_one _ _ h
  obtain ⟨h, e3⟩ := and_one _ _ h
  obtain ⟨h, e2⟩ := and_one _ _ h
  obtain ⟨h, e1⟩ := and_one _ _ h
  obtain ⟨-, e0⟩ := and_one _ _ h
  refine ⟨?_, ?_, ?_, ?_, ?_⟩
  · funext i
    refine (all_real _ _ _ _ _ e0 i).trans ?_
    idx_vars i
    simp only [nums, Nat.mod_eq_of_lt i0.isLt, Nat.mod_eq_of_lt i1.isLt]
  · funext i
    refine (all_real _ _ _ _ _ e1 i).trans ?_
    idx_vars i
    simp only [nums, Nat.mod_eq_of_lt i0.isLt, Nat.mod_eq_of_lt i1.isLt]
  · funext i
    refine (all_real _ _ _ _ _ e2 i).trans ?_
    idx_vars i
    simp only [nums, Nat.mod_eq_of_lt i0.isLt, Nat.mod_eq_of_lt i1.isLt, Nat.mod_eq_of_lt i2.isLt, Nat.mod_eq_of_lt i3.isLt]
  · funext i
    refine (all_real _ _ _ _ _ e3 i).trans ?_
    idx_vars i
    simp only [nums, Nat.mod_eq_of_lt i0.isLt]
  · funext i
    refine (all_real _ _ _ _ _ e4 i).trans ?_
    idx_vars i
    simp only [nums, Nat.mod_eq_of_lt i0.isLt]

end

end Cert.DNPre
end
end
-- ==== Proof.DNRef.lean ====
module

public import proofs.«01_k».proof.Proof.Gen.ReferenceIdeal.Run
public import proofs.«01_k».proof.Proof.DNFold
public import Idealize.ShloMosaic.Lib.Pointwise

@[expose] public section

set_option maxRecDepth 65536

noncomputable section

namespace Cert.DNRef

open Cert.ReferenceIdeal Cert.ReferenceIdeal.Value Idealize.ShloMosaic Idealize.ShloMosaic.TcCoe Idealize.SL.Sem Idealize.ShloMosaic.StableHlo Cert.DN

/-- A start that is a counter below 2048, on an axis of 2048 cut in slices of one, is its own clamp. -/
theorem clamp_iv (k : ℕ) (hk : k < 2048) :
    (min (max (BitVec.ofNat 32 k).toInt 0) ((2047 : ℕ) : ℤ)).toNat = k := by
  rw [WordCmp.toInt_ofNat_of_lt (by norm_num; omega)]
  omega

/-- A start of zero is its own clamp. -/
theorem clamp_zero (n : ℕ) : (min (max (0#32).toInt 0) ((n : ℕ) : ℤ)).toNat = 0 := by
  simp

/-- What the loop holds after `k` tokens: the rows, the decays and the write strengths of every token,
    the counter, the states after `k` tokens, and the outputs of the tokens before the `k`-th. -/
structure Inv (N : Nums) (k : ℕ) (V : Valuation τ sig (Elt Ideal)) : Prop where
  x : V (Proc.devRef .tc main_v25_0) = fun i => ((N.row (1024 * (i 2).val) (i 1).val (i 3).val (i 0).val (i 4) : ℝ) : EReal)
  g : V (Proc.devRef .tc main_v25_1) = fun i => ((N.g (i 1).val (i 2).val (i 0).val : ℝ) : EReal)
  b : V (Proc.devRef .tc main_v25_2) = fun i => ((N.beta (i 1).val (i 2).val (i 0).val : ℝ) : EReal)
  c : V (Proc.devRef .tc main_v25_3) = fun _ => BitVec.ofNat 32 k
  s : V (Proc.devRef .tc main_v25_4) = fun i => ((N.st (i 0).val (i 1).val k (i 2) (i 3) : ℝ) : EReal)
  o : ∀ i : S2048x8x8x128.Idx, (i 0).val < k →
    V (Proc.devRef .tc main_v25_5) i = ((N.out (i 1).val (i 2).val (i 0).val (i 3) : ℝ) : EReal)

section
variable {V : Valuation τ sig (Elt Ideal)} {N : Nums} {k : ℕ} (hk : k < 2048) (I : Inv N k V)
include hk I

/-- The row the loop cuts out is the token's. -/
theorem read_x : res_main_while0b_v28 V =
    fun i => ((N.row (1024 * (i 1).val) (i 0).val (i 2).val k (i 3) : ℝ) : EReal) := by
  funext i
  unfold res_main_while0b_v28
  idx_vars i
  pointwise
  rw [I.x]
  simp only [Host.clampedStart, I.c]
  pointwise
  simp only [clamp_zero, clamp_iv k hk, Nat.zero_add]

/-- The write strength the loop cuts out is the token's. -/
theorem read_b : res_main_while0b_v30 V = fun i => ((N.beta (i 0).val (i 1).val k : ℝ) : EReal) := by
  funext i
  unfold res_main_while0b_v30
  idx_vars i
  pointwise
  rw [I.b]
  simp only [Host.clampedStart, I.c]
  pointwise
  simp only [clamp_zero, clamp_iv k hk, Nat.zero_add]

/-- The key is the row's second part. -/
theorem read_k : res_main_while0b_v34 V =
    fun i => ((N.row 1024 (i 0).val (i 1).val k (i 2) : ℝ) : EReal) := by
  funext i
  unfold res_main_while0b_v34
  rw [read_x hk I]
  idx_vars i
  pointwise

/-- One trip takes the states on by one token. -/
theorem step_s : res_main_while0b_v59 V =
    fun i => ((N.st (i 0).val (i 1).val (k + 1) (i 2) (i 3) : ℝ) : EReal) := by
  funext i
  unfold res_main_while0b_v59
  rw [read_x hk I, read_b hk I, read_k hk I, I.s, I.g]
  idx_vars i
  pointwise
  simp only [Host.clampedStart, I.c]
  pointwise
  simp only [clamp_zero, clamp_iv k hk, Nat.zero_add]
  show _ = ((DNMath.stepS (N.g i0.val i1.val k) (N.beta i0.val i1.val k) (N.row 1024 i0.val i1.val k)
    (N.row 2048 i0.val i1.val k) (N.st i0.val i1.val k) i2 i3 : ℝ) : EReal)
  unfold DNMath.stepS
  simp only [EReal.coe_add, EReal.coe_mul, EReal.coe_sub, coe_sum, ← exp_coe]

/-- One trip writes the token's outputs and leaves the earlier ones. -/
theorem step_o (i : S2048x8x8x128.Idx) (hi : (i 0).val < k + 1) :
    step_main_v25_5 V i = ((N.out (i 1).val (i 2).val (i 0).val (i 3) : ℝ) : EReal) := by
  unfold step_main_v25_5
  rw [read_x hk I, step_s hk I, id_eq, I.c]
  idx_vars i
  pointwise
  simp only [Host.clampedStart, Fin.forall_fin_succ]
  pointwise
  simp only [clamp_zero, clamp_iv k hk, Nat.zero_add, Nat.sub_zero, Nat.zero_le]
  have hi' : i0.val < k + 1 := hi
  split
  · rename_i h
    have h0 : (min (max (BitVec.ofNat 32 k).toInt 0) ((2047 : ℕ) : ℤ)).toNat ≤ i0.val := (h (0 : Fin 4)).1
    rw [clamp_iv k hk] at h0
    obtain rfl : i0.val = k := by omega
    show _ = ((N.out i1.val i2.val i0.val i3 : ℝ) : EReal)
    simp only [Nums.out, coe_sum, EReal.coe_mul]
  · rename_i h
    rcases Nat.lt_or_ge i0.val k with hlt | hge
    · exact I.o (ix4 i0 i1 i2 i3) hlt
    · refine absurd (fun a => ?_) h
      match a with
      | 0 =>
        show (min (max (BitVec.ofNat 32 k).toInt 0) ((2047 : ℕ) : ℤ)).toNat ≤ i0.val ∧
          i0.val < (min (max (BitVec.ofNat 32 k).toInt 0) ((2047 : ℕ) : ℤ)).toNat + 1
        rw [clamp_iv k hk]
        omega
      | 1 => exact ⟨Nat.zero_le _, by show i1.val < 0 + 8; omega⟩
      | 2 => exact ⟨Nat.zero_le _, by show i2.val < 0 + 8; omega⟩
      | 3 => exact ⟨Nat.zero_le _, by show i3.val < 0 + 128; omega⟩

/-- One trip takes the loop from `k` tokens to `k + 1`. -/
theorem step : Inv N (k + 1) (STEP V) where
  x := (STEP_main_v25_0 V).trans I.x
  g := (STEP_main_v25_1 V).trans I.g
  b := (STEP_main_v25_2 V).trans I.b
  c := by
    rw [STEP_main_v25_3]
    unfold step_main_v25_3
    rw [I.c, id_eq]
    funext i
    show BitVec.ofNat 32 k + 1#32 = _
    rw [BitVec.ofNat_add]
  s := by
    rw [STEP_main_v25_4]
    exact step_s hk I
  o := fun i hi => by
    rw [STEP_main_v25_5]
    exact step_o hk I i hi

end

/-- From the entry, the loop holds after `k` trips what it should after `k` tokens. -/
theorem steps {V : Valuation τ sig (Elt Ideal)} {N : Nums} (I : Inv N 0 V) (k : ℕ) (hk : k ≤ 2048) :
    Inv N k (STEP^[k] V) := by
  induction k with
  | zero => exact I
  | succ k ih =>
    rw [Function.iterate_succ_apply']
    exact step (by omega) (ih (by omega))

section
variable (m : (ℓ : Loc nD τ sig) → Buf (Elt Ideal) ℓ) (c : Dev nD) (N : Nums)

/-- The arrays the recurrence reads are the numbers `N`. -/
structure RArgs : Prop where
  h0 : m ((c.tc : Thread nD τ).loc main_arg0) = fun i => ((N.x (i 0).val (i 1).val : ℝ) : EReal)
  h1 : m ((c.tc : Thread nD τ).loc main_arg1) = fun i => ((N.p (i 0).val (i 1).val : ℝ) : EReal)
  h2 : m ((c.tc : Thread nD τ).loc main_arg2) = fun i => ((N.s (i 0).val (i 1).val (i 2).val (i 3).val : ℝ) : EReal)
  h3 : m ((c.tc : Thread nD τ).loc main_arg3) = fun i => ((N.a (i 0).val : ℝ) : EReal)
  h4 : m ((c.tc : Thread nD τ).loc main_arg4) = fun i => ((N.d (i 0).val : ℝ) : EReal)

variable {m c N} (A : RArgs m c N)
include A

/-- The rows at the loop's entry. -/
theorem entry_x : entryContents preI m c (Proc.devRef .tc main_v25_0) =
    fun i => ((N.row (1024 * (i 2).val) (i 1).val (i 3).val (i 0).val (i 4) : ℝ) : EReal) := by
  simp only [entryContents, afterL_cons, afterL_nil]
  after_reads_simp
  simp only [TRef.toBuf, TRef.ofBuf, cast_cast, cast_eq, id_eq]
  rw [launchContents_devRef, A.h0]
  funext i
  idx_vars i
  pointwise
  show _ = ((N.x _ _ : ℝ) : EReal)
  congr 2 <;> omega

/-- The decays at the loop's entry. -/
theorem entry_g : entryContents preI m c (Proc.devRef .tc main_v25_1) =
    fun i => ((N.g (i 1).val (i 2).val (i 0).val : ℝ) : EReal) := by
  simp only [entryContents, afterL_cons, afterL_nil]
  after_reads_simp
  simp only [TRef.toBuf, TRef.ofBuf, cast_cast, cast_eq, id_eq]
  rw [launchContents_devRef, launchContents_devRef, launchContents_devRef, A.h1, A.h3, A.h4]
  funext i
  idx_vars i
  pointwise
  rw [if_neg (not_not.mpr rfl)]
  have e : 4096 + (i1.val * 2048 + i0.val) = 4096 + 2048 * i1.val + i0.val := by omega
  rw [e]
  refine Eq.trans ?_ (gate_real (0 - Real.exp (N.a i2.val)) _ _)
  rw [EReal.coe_sub, ← exp_coe, EReal.coe_zero, zero_sub, zero_sub]
  rfl

/-- The write strengths at the loop's entry. -/
theorem entry_b : entryContents preI m c (Proc.devRef .tc main_v25_2) =
    fun i => ((N.beta (i 1).val (i 2).val (i 0).val : ℝ) : EReal) := by
  simp only [entryContents, afterL_cons, afterL_nil]
  after_reads_simp
  simp only [TRef.toBuf, TRef.ofBuf, cast_cast, cast_eq, id_eq]
  rw [launchContents_devRef, A.h1]
  funext i
  idx_vars i
  pointwise
  have e : 4096 + (i1.val * 2048 + i0.val) = 4096 + 2048 * i1.val + i0.val := by omega
  rw [e]
  refine Eq.trans ?_ (sg_real _)
  rw [zero_sub]

/-- The states at the loop's entry. -/
theorem entry_s : entryContents preI m c (Proc.devRef .tc main_v25_4) =
    fun i => ((N.st (i 0).val (i 1).val 0 (i 2) (i 3) : ℝ) : EReal) := by
  simp only [entryContents, afterL_cons, afterL_nil]
  after_reads_simp
  simp only [TRef.toBuf, TRef.ofBuf, cast_cast, cast_eq, id_eq]
  rw [launchContents_devRef, A.h2]
  rfl

/-- At its entry the loop holds what it should before the first token. -/
theorem entry : Inv N 0 (entryContents preI m c) where
  x := entry_x A
  g := entry_g A
  b := entry_b A
  c := ctr_entry m c
  s := entry_s A
  o := fun _ h => absurd h (Nat.not_lt_zero _)

/-- The recurrence's outputs. -/
theorem out_val : out_main_v27 (STEP^[2048] (entryContents preI m c)) = fun i => ((N.out ((i 0).val / 2048)
    ((i 1).val / 128) ((i 0).val % 2048) ⟨(i 1).val % 128, Nat.mod_lt _ (by norm_num)⟩ : ℝ) : EReal) := by
  funext i
  unfold out_main_v27
  idx_vars i
  pointwise
  refine ((steps (entry A) 2048 le_rfl).o _ (Nat.mod_lt _ (by norm_num))).trans ?_
  rfl

/-- The recurrence's final states. -/
theorem st_val : STEP^[2048] (entryContents preI m c) (Proc.devRef .tc main_v25_4) =
    fun i => ((N.st (i 0).val (i 1).val 2048 (i 2) (i 3) : ℝ) : EReal) :=
  (steps (entry A) 2048 le_rfl).s

end
end Cert.DNRef
end
end
-- ==== Proof.GateVal.lean ====
/-
  The spatial gate: what the kernel leaves in its result array, and that the reference leaves the same.
-/
module

public import proofs.«01_k».proof.Proof.Gen.GateIdeal.Value
public import proofs.«01_k».proof.Proof.Gen.GateRefIdeal.Run
public import proofs.«01_k».proof.Defs
public import Idealize.ShloMosaic.Lib.Pointwise
public import Idealize.ShloMosaic.Lib.Pipeline.ReadBack
public import Idealize.ShloMosaic.Lib.Pipeline.ValueKit
public import Idealize.ShloMosaic.PureOps.Ideal

@[expose] public section

set_option maxRecDepth 65536

noncomputable section

namespace Cert.GateVal

open Idealize.ShloMosaic Idealize.ShloMosaic.TcCoe Idealize.SL.Sem

/-- The tanh form of the Gaussian error linear unit. -/
def gl (z : EReal) : EReal :=
  Ideal.ofBits FTy.f32 1056964608#32 * z * (1 +
    Ideal.tanh (Ideal.ofBits FTy.f32 1061962282#32 * (z + Ideal.ofBits FTy.f32 1027024659#32 * (z * z * z))))

/-- A token's second half, after the unit, normed. -/
def nm (x : Fin 1024 → EReal) (w : Fin 1024 → EReal) (q : Fin 1024) : EReal :=
  gl (x q) * Ideal.rsqrt (Ideal.div (∑ l : Fin 1024, gl (x l) * gl (x l))
    (Ideal.ofBits FTy.f32 1149239296#32) + Ideal.ofBits FTy.f32 897988541#32) * w q

/-- The same for equal numbers. -/
theorem nm_congr {x x' w w' : Fin 1024 → EReal} (hx : ∀ l, x l = x' l) (hw : ∀ l, w l = w' l) (q : Fin 1024) :
    nm x w q = nm x' w' q := by
  rw [funext hx, funext hw]

/-- Sums of equals. -/
theorem add_congr {a a' b b' : EReal} (ha : a = a') (hb : b = b') : a + b = a' + b' := by rw [ha, hb]
/-- Products of equals. -/
theorem mul_congr {a a' b b' : EReal} (ha : a = a') (hb : b = b') : a * b = a' * b' := by rw [ha, hb]

section
open Cert.GateIdeal Cert.GateIdeal.Gen

/-- A square of a block of tokens. -/
def col (X : FVec Ideal S256x1024 .f32) (a o : ℕ) (inb : ∀ d, (![a, o] : Fin 2 → ℕ) d + (![128, 128] : Fin 2 → ℕ) d ≤ S256x1024.size d) :
    FVec Ideal S128x128 .f32 :=
  View.ld (Val := Elt Ideal) (e' := .f32) X (Rect.unit (s := S256x1024) ![a, o] ![128, 128] inb)

/-- A group's mixing weights. -/
def grpW (W : FVec Ideal S8x128x128 .bf16) (g : ℕ) (inb : ∀ d, (![g, 0, 0] : Fin 3 → ℕ) d + (![1, 128, 128] : Fin 3 → ℕ) d ≤ S8x128x128.size d) :
    FVec Ideal S1x128x128 .bf16 :=
  View.ld (Val := Elt Ideal) (e' := .bf16) W (Rect.unit (s := S8x128x128) ![g, 0, 0] ![1, 128, 128] inb)

/-- A group's biases. -/
def grpB (W : FVec Ideal S8x128x128 .f32) (g : ℕ) (inb : ∀ d, (![g, 0, 0] : Fin 3 → ℕ) d + (![1, 128, 128] : Fin 3 → ℕ) d ≤ S8x128x128.size d) :
    FVec Ideal S1x128x128 .f32 :=
  View.ld (Val := Elt Ideal) (e' := .f32) W (Rect.unit (s := S8x128x128) ![g, 0, 0] ![1, 128, 128] inb)

/-- What the body stores of one square: the unit of `u` times the mixed and biased rows `v`. -/
def body (v : FVec Ideal S128x128 .bf16) (w : FVec Ideal S1x128x128 .bf16) (b : FVec Ideal S1x128x128 .f32)
    (u : FVec Ideal S128x128 .f32) : FVec Ideal S128x128 .bf16 :=
  k0_pay1 (F := Ideal) (addf (matmul dot_S128x128_S128x128_S128x128_1_0_0_1_n_n none (shapeCast S128x128 w shapeCasts_S1x128x128_S128x128) v
    (constant S128x128 .f32 0x00000000#32)) (shapeCast S128x128 b shapeCasts_S1x128x128_S128x128)) u (k0_pay4 (F := Ideal))

/-- The piece of the result at rows from `a` and columns from `o`, which are group `g`'s. -/
def piece (v : FVec Ideal S256x1024 .bf16) (U : FVec Ideal S256x1024 .f32) (W : FVec Ideal S8x128x128 .bf16) (B : FVec Ideal S8x128x128 .f32)
    (a o g : ℕ) (h1 : ∀ d, (![a, o] : Fin 2 → ℕ) d + (![128, 128] : Fin 2 → ℕ) d ≤ S256x1024.size d)
    (h2 : ∀ d, (![g, 0, 0] : Fin 3 → ℕ) d + (![1, 128, 128] : Fin 3 → ℕ) d ≤ S8x128x128.size d)
    (hs : S256x1024.Slices ![a, o] S128x128) : View.Piece (Elt Ideal) S256x1024 .bf16 :=
  ⟨Rect.unit (s := S256x1024) ![a, o] ![128, 128] h1, body (extractStridedSlice S128x128 ![a, o] v hs) (grpW W g h2) (grpB B g h2) (col U a o h1)⟩

/-- The sixteen pieces: two chunks of 128 tokens, eight groups of columns. -/
def pieces (v : FVec Ideal S256x1024 .bf16) (U : FVec Ideal S256x1024 .f32) (W : FVec Ideal S8x128x128 .bf16) (B : FVec Ideal S8x128x128 .f32) :
    List (View.Piece (Elt Ideal) S256x1024 .bf16) :=
  [piece v U W B 128 896 7 (by decide) (by decide) slices_S256x1024_o128_896_S128x128,
    piece v U W B 128 768 6 (by decide) (by decide) slices_S256x1024_o128_768_S128x128,
    piece v U W B 128 640 5 (by decide) (by decide) slices_S256x1024_o128_640_S128x128,
    piece v U W B 128 512 4 (by decide) (by decide) slices_S256x1024_o128_512_S128x128,
    piece v U W B 128 384 3 (by decide) (by decide) slices_S256x1024_o128_384_S128x128,
    piece v U W B 128 256 2 (by decide) (by decide) slices_S256x1024_o128_256_S128x128,
    piece v U W B 128 128 1 (by decide) (by decide) slices_S256x1024_o128_128_S128x128,
    piece v U W B 128 0 0 (by decide) (by decide) slices_S256x1024_o128_0_S128x128,
    piece v U W B 0 896 7 (by decide) (by decide) slices_S256x1024_o0_896_S128x128,
    piece v U W B 0 768 6 (by decide) (by decide) slices_S256x1024_o0_768_S128x128,
    piece v U W B 0 640 5 (by decide) (by decide) slices_S256x1024_o0_640_S128x128,
    piece v U W B 0 512 4 (by decide) (by decide) slices_S256x1024_o0_512_S128x128,
    piece v U W B 0 384 3 (by decide) (by decide) slices_S256x1024_o0_384_S128x128,
    piece v U W B 0 256 2 (by decide) (by decide) slices_S256x1024_o0_256_S128x128,
    piece v U W B 0 128 1 (by decide) (by decide) slices_S256x1024_o0_128_S128x128,
    piece v U W B 0 0 0 (by decide) (by decide) slices_S256x1024_o0_0_S128x128]

section
variable (x : FVec Ideal S256x1024 .f32) (n : FVec Ideal S1x1024 .f32) (v : FVec Ideal S256x1024 .bf16) (w : FVec Ideal S1x128x128 .bf16)
  (b : FVec Ideal S1x128x128 .f32) (u : FVec Ideal S128x128 .f32)
/-- What the body stores of piece 0. -/
theorem eq_0 : k0_pay5 (F := Ideal) (k0_pay3 x n w b) u k0_pay4 = body (extractStridedSlice S128x128 ![0, 0] (k0_pay2 x n) (by exact slices_S256x1024_o0_0_S128x128)) w b u := rfl
/-- What the body stores of piece 1. -/
theorem eq_1 : k0_pay6 (F := Ideal) v w b u = body (extractStridedSlice S128x128 ![0, 128] v (by exact slices_S256x1024_o0_128_S128x128)) w b u := rfl
/-- What the body stores of piece 2. -/
theorem eq_2 : k0_pay7 (F := Ideal) v w b u = body (extractStridedSlice S128x128 ![0, 256] v (by exact slices_S256x1024_o0_256_S128x128)) w b u := rfl
/-- What the body stores of piece 3. -/
theorem eq_3 : k0_pay10 (F := Ideal) (k0_pay8 v w b) u k0_pay9 = body (extractStridedSlice S128x128 ![0, 384] v (by exact slices_S256x1024_o0_384_S128x128)) w b u := rfl
/-- What the body stores of piece 4. -/
theorem eq_4 : k0_pay11 (F := Ideal) v w b u = body (extractStridedSlice S128x128 ![0, 512] v (by exact slices_S256x1024_o0_512_S128x128)) w b u := rfl
/-- What the body stores of piece 5. -/
theorem eq_5 : k0_pay12 (F := Ideal) v w b u = body (extractStridedSlice S128x128 ![0, 640] v (by exact slices_S256x1024_o0_640_S128x128)) w b u := rfl
/-- What the body stores of piece 6. -/
theorem eq_6 : k0_pay15 (F := Ideal) (k0_pay13 v w b) u k0_pay14 = body (extractStridedSlice S128x128 ![0, 768] v (by exact slices_S256x1024_o0_768_S128x128)) w b u := rfl
/-- What the body stores of piece 7. -/
theorem eq_7 : k0_pay16 (F := Ideal) v w b u = body (extractStridedSlice S128x128 ![0, 896] v (by exact slices_S256x1024_o0_896_S128x128)) w b u := rfl
/-- What the body stores of piece 8. -/
theorem eq_8 : k0_pay17 (F := Ideal) v w b u = body (extractStridedSlice S128x128 ![128, 0] v (by exact slices_S256x1024_o128_0_S128x128)) w b u := rfl
/-- What the body stores of piece 9. -/
theorem eq_9 : k0_pay20 (F := Ideal) (k0_pay18 v w b) u k0_pay19 = body (extractStridedSlice S128x128 ![128, 128] v (by exact slices_S256x1024_o128_128_S128x128)) w b u := rfl
/-- What the body stores of piece 10. -/
theorem eq_10 : k0_pay21 (F := Ideal) v w b u = body (extractStridedSlice S128x128 ![128, 256] v (by exact slices_S256x1024_o128_256_S128x128)) w b u := rfl
/-- What the body stores of piece 11. -/
theorem eq_11 : k0_pay22 (F := Ideal) v w b u = body (extractStridedSlice S128x128 ![128, 384] v (by exact slices_S256x1024_o128_384_S128x128)) w b u := rfl
/-- What the body stores of piece 12. -/
theorem eq_12 : k0_pay25 (F := Ideal) (k0_pay23 v w b) u k0_pay24 = body (extractStridedSlice S128x128 ![128, 512] v (by exact slices_S256x1024_o128_512_S128x128)) w b u := rfl
/-- What the body stores of piece 13. -/
theorem eq_13 : k0_pay26 (F := Ideal) v w b u = body (extractStridedSlice S128x128 ![128, 640] v (by exact slices_S256x1024_o128_640_S128x128)) w b u := rfl
/-- What the body stores of piece 14. -/
theorem eq_14 : k0_pay27 (F := Ideal) v w b u = body (extractStridedSlice S128x128 ![128, 768] v (by exact slices_S256x1024_o128_768_S128x128)) w b u := rfl
/-- What the body stores of piece 15. -/
theorem eq_15 : k0_pay1 (F := Ideal) (k0_pay28 v w b) u k0_pay29 = body (extractStridedSlice S128x128 ![128, 896] v (by exact slices_S256x1024_o128_896_S128x128)) w b u := rfl
end

section
variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S1x1024 .f32) (harg3 : arg3.IsWhole)
  (arg4 : Memref sig .tc .vmem S8x128x128 .bf16) (harg4 : arg4.IsWhole)
  (arg5 : Memref sig .tc .vmem S8x128x128 .f32) (harg5 : arg5.IsWhole)
  (arg6 : Memref sig .tc .vmem S256x1024 .bf16) (harg6 : arg6.IsWhole)
  (x0 : Vec Ideal S256x1024 .f32) (x1 : Vec Ideal S256x1024 .f32) (x2 : Vec Ideal S1x1024 .f32)
  (x3 : Vec Ideal S8x128x128 .bf16) (x4 : Vec Ideal S8x128x128 .f32)

set_option maxHeartbeats 1000000 in
/-- The block the body leaves. -/
theorem out_A : out0_A_5 c i arg1 harg1 arg2 harg2 arg3 harg3 arg4 harg4 arg5 harg5 arg6 harg6 x0 x1 x2 x3 x4 =
    View.canon (pieces (k0_pay2 (F := Ideal) x1 x2) x0 x3 x4) := by
  unfold out0_A_5
  frame_open
  simp (disch := decide) only [↓ View.readCov_skip, ↓ View.readCov_cons_toLoadRect, ↓ View.readCov_fill]
  frame_out
  simp only [eq_0, eq_1, eq_2, eq_3, eq_4, eq_5, eq_6, eq_7, eq_8, eq_9, eq_10, eq_11, eq_12, eq_13, eq_14, eq_15]
  rfl
end

/-- A square of a block at an index. -/
theorem col_apply (X : FVec Ideal S256x1024 .f32) (a o : ℕ) (inb) (i e : Fin 128) (r : Fin 256) (l : Fin 1024) (hr : r.val = a + i.val)
    (hl : l.val = o + e.val) : col X a o inb (ix2 i e) = X (ix2 r l) := by
  show X _ = X _
  congr 1
  funext d
  fin_cases d
  · exact Fin.ext (show a + 1 * i.val = r.val by omega)
  · exact Fin.ext (show o + 1 * e.val = l.val by omega)

/-- A group's mixing weights at an index. -/
theorem grpW_apply (W : FVec Ideal S8x128x128 .bf16) (g : Fin 8) (inb) (i e : Fin 128) :
    grpW W g.val inb (ix3 (0 : Fin 1) i e) = W (ix3 g i e) := by
  show W _ = W _
  congr 1
  funext d
  fin_cases d
  · exact Fin.ext (show g.val + 1 * 0 = g.val by omega)
  · exact Fin.ext (show 0 + 1 * i.val = i.val by omega)
  · exact Fin.ext (show 0 + 1 * e.val = e.val by omega)

/-- A group's biases at an index. -/
theorem grpB_apply (W : FVec Ideal S8x128x128 .f32) (g : Fin 8) (inb) (i e : Fin 128) :
    grpB W g.val inb (ix3 (0 : Fin 1) i e) = W (ix3 g i e) := by
  show W _ = W _
  congr 1
  funext d
  fin_cases d
  · exact Fin.ext (show g.val + 1 * 0 = g.val by omega)
  · exact Fin.ext (show 0 + 1 * i.val = i.val by omega)
  · exact Fin.ext (show 0 + 1 * e.val = e.val by omega)

/-- What the body keeps of a block of tokens, at an index. -/
theorem pay2 (x : FVec Ideal S256x1024 .f32) (w : FVec Ideal S1x1024 .f32) (i : Fin 256) (q : Fin 1024) :
    k0_pay2 (F := Ideal) x w (ix2 i q) = nm (fun l => x (ix2 i l)) (fun l => w (ix2 (0 : Fin 1) l)) q := by
  pointwise [k0_pay2, nm, gl]

/-- What the body stores of one square, at an index. -/
theorem body_apply (v : FVec Ideal S128x128 .bf16) (w : FVec Ideal S1x128x128 .bf16) (b : FVec Ideal S1x128x128 .f32)
    (u : FVec Ideal S128x128 .f32) (i e : Fin 128) :
    body v w b u (ix2 i e) = gl (u (ix2 i e)) * (∑ l : Fin 128, w (ix3 (0 : Fin 1) i l) * v (ix2 l e) + b (ix3 (0 : Fin 1) i e)) := by
  pointwise [body, k0_pay1, k0_pay4, gl]

/-- A square of the kept rows at an index. -/
theorem slice_apply (v : FVec Ideal S256x1024 .bf16) (a o : ℕ) (hs : S256x1024.Slices ![a, o] S128x128) (i e : Fin 128) (r : Fin 256) (l : Fin 1024)
    (hr : r.val = a + i.val) (hl : l.val = o + e.val) : extractStridedSlice S128x128 ![a, o] v hs (ix2 i e) = v (ix2 r l) := by
  show v _ = v _
  congr 1
  funext d
  fin_cases d
  · exact Fin.ext (show a + i.val = r.val by omega)
  · exact Fin.ext (show o + e.val = l.val by omega)

/-- The gated rows of a block. -/
def rows (v : FVec Ideal S256x1024 .bf16) (U : FVec Ideal S256x1024 .f32) (W : FVec Ideal S8x128x128 .bf16) (B : FVec Ideal S8x128x128 .f32) :
    FVec Ideal S256x1024 .bf16 := fun y =>
  have h0 : (y 0).val < 256 := (y 0).isLt
  have h1 : (y 1).val < 1024 := (y 1).isLt
  gl (U (ix2 (y 0) (y 1))) * (∑ l : Fin 128, W (ix3 (⟨(y 1).val / 128, by omega⟩ : Fin 8) (⟨(y 0).val % 128, by omega⟩ : Fin 128) l) *
    v (ix2 (⟨(y 0).val / 128 * 128 + l.val, by omega⟩ : Fin 256) (y 1)) +
    B (ix3 (⟨(y 1).val / 128, by omega⟩ : Fin 8) (⟨(y 0).val % 128, by omega⟩ : Fin 128) (⟨(y 1).val % 128, by omega⟩ : Fin 128)))

/-- A piece is the gated rows there. -/
theorem piece_val (v : FVec Ideal S256x1024 .bf16) (U : FVec Ideal S256x1024 .f32) (W : FVec Ideal S8x128x128 .bf16) (B : FVec Ideal S8x128x128 .f32)
    (k g : ℕ) (hk : k < 2) (hg : g < 8) (h1 h2) (hs : S256x1024.Slices ![128 * k, 128 * g] S128x128)
    (x : (piece v U W B (128 * k) (128 * g) g h1 h2 hs).1.shape.Idx) :
    (piece v U W B (128 * k) (128 * g) g h1 h2 hs).2 x = rows v U W B ((piece v U W B (128 * k) (128 * g) g h1 h2 hs).1.emb x) := by
  have key : ∀ (i e : Fin 128) (r : Fin 256) (l : Fin 1024), r.val = 128 * k + i.val → l.val = 128 * g + e.val →
      body (extractStridedSlice S128x128 ![128 * k, 128 * g] v hs) (grpW W g h2) (grpB B g h2) (col U (128 * k) (128 * g) h1) (ix2 i e) =
        rows v U W B (ix2 r l) := by
    intro i e r l hr hl
    refine (body_apply _ _ _ _ i e).trans ?_
    have ei : i = ⟨r.val % 128, by omega⟩ := Fin.ext (by dsimp only; omega)
    have ee : e = ⟨l.val % 128, by omega⟩ := Fin.ext (by dsimp only; omega)
    have eg : (⟨g, hg⟩ : Fin 8) = ⟨l.val / 128, by omega⟩ := Fin.ext (by dsimp only; omega)
    refine mul_congr (congrArg gl (col_apply U _ _ h1 i e r l hr hl)) (add_congr (Finset.sum_congr rfl fun s _ => mul_congr ?_ ?_) ?_)
    · refine (grpW_apply W ⟨g, hg⟩ h2 i s).trans ?_
      show _ = W (ix3 ⟨l.val / 128, _⟩ ⟨r.val % 128, _⟩ s)
      rw [← eg, ← ei]
    · exact slice_apply v _ _ hs s e ⟨r.val / 128 * 128 + s.val, by omega⟩ l (by dsimp only; omega) hl
    · refine (grpB_apply B ⟨g, hg⟩ h2 i e).trans ?_
      show _ = B (ix3 ⟨l.val / 128, _⟩ ⟨r.val % 128, _⟩ ⟨l.val % 128, _⟩)
      rw [← eg, ← ei, ← ee]
  have x0 : (x 0).val < 128 := (x 0).isLt
  have x1 : (x 1).val < 128 := (x 1).isLt
  refine Eq.trans (congrArg _ ?_) ((key ⟨(x 0).val, x0⟩ ⟨(x 1).val, x1⟩ ⟨128 * k + (x 0).val, by omega⟩ ⟨128 * g + (x 1).val, by omega⟩ rfl rfl).trans
    (congrArg _ ?_))
  · funext d; fin_cases d <;> rfl
  · funext d
    fin_cases d
    · exact Fin.ext (show 128 * k + (x 0).val = 128 * k + 1 * (x 0).val by omega)
    · exact Fin.ext (show 128 * g + (x 1).val = 128 * g + 1 * (x 1).val by omega)

/-- The sixteen pieces cover the block. -/
theorem pieces_cover (v : FVec Ideal S256x1024 .bf16) (U : FVec Ideal S256x1024 .f32) (W : FVec Ideal S8x128x128 .bf16) (B : FVec Ideal S8x128x128 .f32)
    (y : S256x1024.Idx) : ∃ p ∈ pieces v U W B, y ∈ p.1.set := by
  have hc : ∀ (a o g : ℕ) (h1 h2 hs), a ≤ (y 0 : ℕ) → (y 0 : ℕ) < a + 128 → o ≤ (y 1 : ℕ) → (y 1 : ℕ) < o + 128 →
      y ∈ (piece v U W B a o g h1 h2 hs).1.set := fun a o g h1 h2 hs e1 e2 e3 e4 => by
    refine (Rect.mem_set_unit (inb := h1)).mpr fun d => ?_
    fin_cases d
    · exact ⟨e1, e2⟩
    · exact ⟨e3, e4⟩
  have h0 : (y 0 : ℕ) < 256 := (y 0).isLt
  have h1 : (y 1 : ℕ) < 1024 := (y 1).isLt
  have : ((y 0 : ℕ) / 128 = 0 ∧ (y 1 : ℕ) / 128 = 0) ∨ ((y 0 : ℕ) / 128 = 0 ∧ (y 1 : ℕ) / 128 = 1) ∨ ((y 0 : ℕ) / 128 = 0 ∧ (y 1 : ℕ) / 128 = 2) ∨ ((y 0 : ℕ) / 128 = 0 ∧ (y 1 : ℕ) / 128 = 3) ∨ ((y 0 : ℕ) / 128 = 0 ∧ (y 1 : ℕ) / 128 = 4) ∨ ((y 0 : ℕ) / 128 = 0 ∧ (y 1 : ℕ) / 128 = 5) ∨ ((y 0 : ℕ) / 128 = 0 ∧ (y 1 : ℕ) / 128 = 6) ∨ ((y 0 : ℕ) / 128 = 0 ∧ (y 1 : ℕ) / 128 = 7) ∨ ((y 0 : ℕ) / 128 = 1 ∧ (y 1 : ℕ) / 128 = 0) ∨ ((y 0 : ℕ) / 128 = 1 ∧ (y 1 : ℕ) / 128 = 1) ∨ ((y 0 : ℕ) / 128 = 1 ∧ (y 1 : ℕ) / 128 = 2) ∨ ((y 0 : ℕ) / 128 = 1 ∧ (y 1 : ℕ) / 128 = 3) ∨ ((y 0 : ℕ) / 128 = 1 ∧ (y 1 : ℕ) / 128 = 4) ∨ ((y 0 : ℕ) / 128 = 1 ∧ (y 1 : ℕ) / 128 = 5) ∨ ((y 0 : ℕ) / 128 = 1 ∧ (y 1 : ℕ) / 128 = 6) ∨ ((y 0 : ℕ) / 128 = 1 ∧ (y 1 : ℕ) / 128 = 7) := by omega
  rcases this with e | e | e | e | e | e | e | e | e | e | e | e | e | e | e | e
  · exact ⟨piece v U W B 0 0 0 (by decide) (by decide) slices_S256x1024_o0_0_S128x128, by simp [pieces], hc 0 0 0 (by decide) (by decide) _ (by omega) (by omega) (by omega) (by omega)⟩
  · exact ⟨piece v U W B 0 128 1 (by decide) (by decide) slices_S256x1024_o0_128_S128x128, by simp [pieces], hc 0 128 1 (by decide) (by decide) _ (by omega) (by omega) (by omega) (by omega)⟩
  · exact ⟨piece v U W B 0 256 2 (by decide) (by decide) slices_S256x1024_o0_256_S128x128, by simp [pieces], hc 0 256 2 (by decide) (by decide) _ (by omega) (by omega) (by omega) (by omega)⟩
  · exact ⟨piece v U W B 0 384 3 (by decide) (by decide) slices_S256x1024_o0_384_S128x128, by simp [pieces], hc 0 384 3 (by decide) (by decide) _ (by omega) (by omega) (by omega) (by omega)⟩
  · exact ⟨piece v U W B 0 512 4 (by decide) (by decide) slices_S256x1024_o0_512_S128x128, by simp [pieces], hc 0 512 4 (by decide) (by decide) _ (by omega) (by omega) (by omega) (by omega)⟩
  · exact ⟨piece v U W B 0 640 5 (by decide) (by decide) slices_S256x1024_o0_640_S128x128, by simp [pieces], hc 0 640 5 (by decide) (by decide) _ (by omega) (by omega) (by omega) (by omega)⟩
  · exact ⟨piece v U W B 0 768 6 (by decide) (by decide) slices_S256x1024_o0_768_S128x128, by simp [pieces], hc 0 768 6 (by decide) (by decide) _ (by omega) (by omega) (by omega) (by omega)⟩
  · exact ⟨piece v U W B 0 896 7 (by decide) (by decide) slices_S256x1024_o0_896_S128x128, by simp [pieces], hc 0 896 7 (by decide) (by decide) _ (by omega) (by omega) (by omega) (by omega)⟩
  · exact ⟨piece v U W B 128 0 0 (by decide) (by decide) slices_S256x1024_o128_0_S128x128, by simp [pieces], hc 128 0 0 (by decide) (by decide) _ (by omega) (by omega) (by omega) (by omega)⟩
  · exact ⟨piece v U W B 128 128 1 (by decide) (by decide) slices_S256x1024_o128_128_S128x128, by simp [pieces], hc 128 128 1 (by decide) (by decide) _ (by omega) (by omega) (by omega) (by omega)⟩
  · exact ⟨piece v U W B 128 256 2 (by decide) (by decide) slices_S256x1024_o128_256_S128x128, by simp [pieces], hc 128 256 2 (by decide) (by decide) _ (by omega) (by omega) (by omega) (by omega)⟩
  · exact ⟨piece v U W B 128 384 3 (by decide) (by decide) slices_S256x1024_o128_384_S128x128, by simp [pieces], hc 128 384 3 (by decide) (by decide) _ (by omega) (by omega) (by omega) (by omega)⟩
  · exact ⟨piece v U W B 128 512 4 (by decide) (by decide) slices_S256x1024_o128_512_S128x128, by simp [pieces], hc 128 512 4 (by decide) (by decide) _ (by omega) (by omega) (by omega) (by omega)⟩
  · exact ⟨piece v U W B 128 640 5 (by decide) (by decide) slices_S256x1024_o128_640_S128x128, by simp [pieces], hc 128 640 5 (by decide) (by decide) _ (by omega) (by omega) (by omega) (by omega)⟩
  · exact ⟨piece v U W B 128 768 6 (by decide) (by decide) slices_S256x1024_o128_768_S128x128, by simp [pieces], hc 128 768 6 (by decide) (by decide) _ (by omega) (by omega) (by omega) (by omega)⟩
  · exact ⟨piece v U W B 128 896 7 (by decide) (by decide) slices_S256x1024_o128_896_S128x128, by simp [pieces], hc 128 896 7 (by decide) (by decide) _ (by omega) (by omega) (by omega) (by omega)⟩

/-- The block is the gated rows. -/
theorem pieces_val (v : FVec Ideal S256x1024 .bf16) (U : FVec Ideal S256x1024 .f32) (W : FVec Ideal S8x128x128 .bf16) (B : FVec Ideal S8x128x128 .f32) :
    View.canon (pieces v U W B) = rows v U W B := by
  funext y
  refine View.canon_apply_of_pieces _ (pieces v U W B) (fun p hpm => ?_) y (pieces_cover v U W B y)
  simp only [pieces, List.mem_cons, List.not_mem_nil, or_false] at hpm
  rcases hpm with e | e | e | e | e | e | e | e | e | e | e | e | e | e | e | e <;> subst e
  · exact fun x => piece_val v U W B 1 7 (by decide) (by decide) (by decide) (by decide) slices_S256x1024_o128_896_S128x128 x
  · exact fun x => piece_val v U W B 1 6 (by decide) (by decide) (by decide) (by decide) slices_S256x1024_o128_768_S128x128 x
  · exact fun x => piece_val v U W B 1 5 (by decide) (by decide) (by decide) (by decide) slices_S256x1024_o128_640_S128x128 x
  · exact fun x => piece_val v U W B 1 4 (by decide) (by decide) (by decide) (by decide) slices_S256x1024_o128_512_S128x128 x
  · exact fun x => piece_val v U W B 1 3 (by decide) (by decide) (by decide) (by decide) slices_S256x1024_o128_384_S128x128 x
  · exact fun x => piece_val v U W B 1 2 (by decide) (by decide) (by decide) (by decide) slices_S256x1024_o128_256_S128x128 x
  · exact fun x => piece_val v U W B 1 1 (by decide) (by decide) (by decide) (by decide) slices_S256x1024_o128_128_S128x128 x
  · exact fun x => piece_val v U W B 1 0 (by decide) (by decide) (by decide) (by decide) slices_S256x1024_o128_0_S128x128 x
  · exact fun x => piece_val v U W B 0 7 (by decide) (by decide) (by decide) (by decide) slices_S256x1024_o0_896_S128x128 x
  · exact fun x => piece_val v U W B 0 6 (by decide) (by decide) (by decide) (by decide) slices_S256x1024_o0_768_S128x128 x
  · exact fun x => piece_val v U W B 0 5 (by decide) (by decide) (by decide) (by decide) slices_S256x1024_o0_640_S128x128 x
  · exact fun x => piece_val v U W B 0 4 (by decide) (by decide) (by decide) (by decide) slices_S256x1024_o0_512_S128x128 x
  · exact fun x => piece_val v U W B 0 3 (by decide) (by decide) (by decide) (by decide) slices_S256x1024_o0_384_S128x128 x
  · exact fun x => piece_val v U W B 0 2 (by decide) (by decide) (by decide) (by decide) slices_S256x1024_o0_256_S128x128 x
  · exact fun x => piece_val v U W B 0 1 (by decide) (by decide) (by decide) (by decide) slices_S256x1024_o0_128_S128x128 x
  · exact fun x => piece_val v U W B 0 0 (by decide) (by decide) (by decide) (by decide) slices_S256x1024_o0_0_S128x128 x

/-- The normed second half of a token. -/
def nmG (P : FVec Ideal S20480x10368 .f32) (w : FVec Ideal S1024 .f32) (j : Fin 20480) (q : Fin 1024) : EReal :=
  nm (fun l => P (ix2 j ⟨5120 + l.val, by omega⟩)) (fun l => w (ix1 l)) q

/-- The spatial gate, at a token and a column. -/
def G' (P : FVec Ideal S20480x10368 .f32) (w : FVec Ideal S1024 .f32) (W : FVec Ideal S8x128x128 .f32) (b : FVec Ideal S8x128 .f32)
    (j : Fin 20480) (q : Fin 1024) : EReal :=
  gl (P (ix2 j ⟨4096 + q.val, by omega⟩)) *
    (∑ l : Fin 128, W (ix3 (⟨q.val / 128, by omega⟩ : Fin 8) (⟨j.val % 128, by omega⟩ : Fin 128) l) *
      nmG P w ⟨j.val / 128 * 128 + l.val, by omega⟩ q +
    b (ix2 (⟨q.val / 128, by omega⟩ : Fin 8) (⟨j.val % 128, by omega⟩ : Fin 128)))

/-- The spatial gate. -/
def G (P : FVec Ideal S20480x10368 .f32) (w : FVec Ideal S1024 .f32) (W : FVec Ideal S8x128x128 .f32) (b : FVec Ideal S8x128 .f32) :
    FVec Ideal S20480x1024 .bf16 := fun i => G' P w W b (i 0) (i 1)

/-- Where the blocks of the first half lie. -/
theorem idx_0 : ∀ t : Fin cfg0.N, win0_0.index t = ![t.val, 4] := (by decide +kernel : ∀ t : Fin grid0.N, _)
/-- Where the blocks of the second half lie. -/
theorem idx_1 : ∀ t : Fin cfg0.N, win0_1.index t = ![t.val, 5] := (by decide +kernel : ∀ t : Fin grid0.N, _)
/-- Where the norm's weights lie: they are one block. -/
theorem idx_2 : ∀ t : Fin cfg0.N, win0_2.index t = ![0, 0] := (by decide +kernel : ∀ t : Fin grid0.N, _)
/-- Where the mixing weights lie: they are one block. -/
theorem idx_3 : ∀ t : Fin cfg0.N, win0_3.index t = ![0, 0, 0] := (by decide +kernel : ∀ t : Fin grid0.N, _)
/-- Where the biases lie: they are one block. -/
theorem idx_4 : ∀ t : Fin cfg0.N, win0_4.index t = ![0, 0, 0] := (by decide +kernel : ∀ t : Fin grid0.N, _)
/-- Where the blocks of the result lie. -/
theorem idx_5 : ∀ t : Fin cfg0.N, win0_5.index t = ![t.val, 0] := (by decide +kernel : ∀ t : Fin grid0.N, _)

variable (m : (ℓ : Loc nD τ sig) → Buf (Elt Ideal) ℓ) (c : Dev nD)

/-- The norm's weights the kernel is handed are the argument as a row. -/
theorem V_nw (e : Fin 1024) : (V m c main_v2 : FVec Ideal S1x1024 .f32) (ix2 (0 : Fin 1) e) = m ((c : Thread nD τ).loc main_arg1) (ix1 e) := by
  have h : (V m c main_v2 : FVec Ideal S1x1024 .f32) = shapeCast S1x1024 (m ((c : Thread nD τ).loc main_arg1)) shapeCasts_S1024_S1x1024 := by
    show StableHlo.after _ _ _ = _
    simp only [hostOps0]
    simp only [StableHlo.after_cons, StableHlo.after_nil]
    after_results_simp
    rfl
  rw [h]
  pointwise

/-- The mixing weights the kernel is handed are the argument. -/
theorem V_w : (V m c main_v3 : FVec Ideal S8x128x128 .bf16) = m ((c : Thread nD τ).loc main_arg2) := by
  show StableHlo.after _ _ _ = _
  simp only [hostOps0]
  simp only [StableHlo.after_cons, StableHlo.after_nil]
  after_results_simp
  rfl

/-- The biases the kernel is handed are the argument, repeated over a group's columns. -/
theorem V_b (g : Fin 8) (i e : Fin 128) : (V m c main_v1 : FVec Ideal S8x128x128 .f32) (ix3 g i e) = m ((c : Thread nD τ).loc main_arg3) (ix2 g i) := by
  have h : (V m c main_v1 : FVec Ideal S8x128x128 .f32) = broadcastInDim S8x128x128 ![0, 1, 2] bcast_S8x128x1_S8x128x128_0_1_2
      (broadcastInDim S8x128x1 ![0, 1] bcast_S8x128_S8x128x1_0_1 (m ((c : Thread nD τ).loc main_arg3))) := by
    show StableHlo.after _ _ _ = _
    simp only [hostOps0]
    simp only [StableHlo.after_cons, StableHlo.after_nil]
    after_results_simp
    try rfl
  rw [h]
  pointwise

/-- A block of the first half. -/
theorem blk_0 (t : Fin cfg0.N) (i : Fin 256) (k : Fin 1024) (j : Fin 20480) (q : Fin 10368) (hj : j.val = t.val * 256 + i.val)
    (hq : q.val = 4096 + k.val) :
    (X0_0 m c t : FVec Ideal S256x1024 .f32) (ix2 i k) = m ((c : Thread nD τ).loc main_arg0) (ix2 j q) := by
  unfold X0_0 Pipeline.Window.fill
  rw [dif_pos (moved0_0 t _)]
  blk_simp [iblk, idx_0]
  rw [V_main_arg0]
  congr 1
  blk_ext [idx_0]

/-- A block of the second half. -/
theorem blk_1 (t : Fin cfg0.N) (i : Fin 256) (k : Fin 1024) (j : Fin 20480) (q : Fin 10368) (hj : j.val = t.val * 256 + i.val)
    (hq : q.val = 5120 + k.val) :
    (X0_1 m c t : FVec Ideal S256x1024 .f32) (ix2 i k) = m ((c : Thread nD τ).loc main_arg0) (ix2 j q) := by
  unfold X0_1 Pipeline.Window.fill
  rw [dif_pos (moved0_1 t _)]
  blk_simp [iblk, idx_1]
  rw [V_main_arg0]
  congr 1
  blk_ext [idx_1]

/-- The norm's weights. -/
theorem blk_2 (t : Fin cfg0.N) (e : Fin 1024) :
    (iblk m c 2 t : FVec Ideal S1x1024 .f32) (ix2 (0 : Fin 1) e) = m ((c : Thread nD τ).loc main_arg1) (ix1 e) := by
  rw [← V_nw m c]
  blk_simp [iblk, idx_2]
  congr 1
  blk_ext [idx_2]

/-- The mixing weights. -/
theorem blk_3 (t : Fin cfg0.N) (g : Fin 8) (i e : Fin 128) :
    (iblk m c 3 t : FVec Ideal S8x128x128 .bf16) (ix3 g i e) = m ((c : Thread nD τ).loc main_arg2) (ix3 g i e) := by
  rw [← V_w m c]
  blk_simp [iblk, idx_3]
  congr 1
  blk_ext [idx_3]

/-- The biases. -/
theorem blk_4 (t : Fin cfg0.N) (g : Fin 8) (i e : Fin 128) :
    (iblk m c 4 t : FVec Ideal S8x128x128 .f32) (ix3 g i e) = m ((c : Thread nD τ).loc main_arg3) (ix2 g i) := by
  rw [← V_b m c g i e]
  blk_simp [iblk, idx_4]
  congr 1
  blk_ext [idx_4]

/-- The kernel's result array. -/
theorem final : (dats m 0 c).arrAt 5 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  rw [out_A, pieces_val]
  have ht : t.val < 80 := lt_of_lt_of_eq t.isLt N_0
  have key : ∀ (i : Fin 256) (k : Fin 1024) (j : Fin 20480), j.val = t.val * 256 + i.val →
      rows (k0_pay2 (F := Ideal) (X0_1 m c t) (iblk m c 2 t)) (X0_0 m c t) (iblk m c 3 t) (iblk m c 4 t) (ix2 i k) =
      G (m ((c : Thread nD τ).loc main_arg0)) (m ((c : Thread nD τ).loc main_arg1))
        (m ((c : Thread nD τ).loc main_arg2)) (m ((c : Thread nD τ).loc main_arg3)) (ix2 j k) := by
    intro i k j hj
    have ej : (⟨i.val % 128, by omega⟩ : Fin 128) = ⟨j.val % 128, by omega⟩ := Fin.ext (by dsimp only; omega)
    have ev : ∀ s : Fin 128, k0_pay2 (F := Ideal) (X0_1 m c t) (iblk m c 2 t) (ix2 (⟨i.val / 128 * 128 + s.val, by omega⟩ : Fin 256) k) =
        nmG (m ((c : Thread nD τ).loc main_arg0)) (m ((c : Thread nD τ).loc main_arg1)) ⟨j.val / 128 * 128 + s.val, by omega⟩ k := fun s =>
      (pay2 _ _ _ k).trans (nm_congr (fun l => blk_1 m c t _ l _ _ (by dsimp only; omega) rfl) (blk_2 m c t) k)
    refine mul_congr (congrArg gl (blk_0 m c t i k j _ hj rfl)) (add_congr (Finset.sum_congr rfl fun s _ => mul_congr ?_ (ev s)) ?_)
    · refine (blk_3 m c t _ _ s).trans ?_
      exact congrArg (fun z => m ((c : Thread nD τ).loc main_arg2) (ix3 (⟨k.val / 128, by omega⟩ : Fin 8) z s)) ej
    · refine (blk_4 m c t _ _ _).trans ?_
      exact congrArg (fun z => m ((c : Thread nD τ).loc main_arg3) (ix2 (⟨k.val / 128, by omega⟩ : Fin 8) z)) ej
  have y0 : (y 0).val < 256 := (y 0).isLt
  have y1 : (y 1).val < 1024 := (y 1).isLt
  refine Eq.trans (congrArg _ ?_) ((key ⟨(y 0).val, y0⟩ ⟨(y 1).val, y1⟩ ⟨t.val * 256 + (y 0).val, by omega⟩ rfl).trans
    (congrArg _ ?_))
  · funext a; fin_cases a <;> rfl
  · blk_ext [idx_5]
end

section
open Cert.GateRefIdeal Cert.GateRefIdeal.Gen

/-- The reference's form of the unit. -/
theorem gl_eq (z : EReal) : z * (Ideal.ofBits FTy.f32 1056964608#32 * (1 +
    Ideal.tanh (Ideal.ofBits FTy.f32 1061962282#32 * (z + Ideal.ofBits FTy.f32 1027024659#32 * (z * z * z))))) = gl z := by
  unfold gl
  rw [← mul_assoc, mul_comm z]

set_option maxHeartbeats 4000000 in
/-- The reference's result array. -/
theorem ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v50) = G (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.GateRefIdeal.Value.run (F := Ideal) m g)
  clear h
  funext y
  idx_vars y
  pointwise [Cert.GateRefIdeal.Value.res_main_v50, G, G', nmG, nm]
  refine mul_congr (gl_eq _) (add_congr (Finset.sum_congr rfl fun s _ => ?_) rfl)
  refine (mul_comm _ _).trans (mul_congr rfl (mul_congr (mul_congr (gl_eq _) (congrArg Ideal.rsqrt (add_congr (congrArg (fun z =>
    Ideal.div z (Ideal.ofBits FTy.f32 1149239296#32)) (Finset.sum_congr rfl fun l _ => mul_congr (gl_eq _) (gl_eq _))) rfl))) rfl))
end
end Cert.GateVal
end
end
-- ==== Proof.OutVal.lean ====
/-
  The output projection: what the kernel leaves in its result array, and that the reference leaves the same.
-/
module

public import proofs.«01_k».proof.Proof.Gen.OutProjIdeal.Value
public import proofs.«01_k».proof.Proof.Gen.OutProjRefIdeal.Run
public import proofs.«01_k».proof.Defs
public import Idealize.ShloMosaic.Lib.Pointwise
public import Idealize.ShloMosaic.Lib.Pipeline.ReadBack
public import Idealize.ShloMosaic.Lib.Pipeline.ValueKit
public import Idealize.ShloMosaic.PureOps.Ideal

@[expose] public section

set_option maxRecDepth 16384

noncomputable section

namespace Cert.OutVal

open Idealize.ShloMosaic Idealize.ShloMosaic.TcCoe Idealize.SL.Sem

/-- The row of the modulation table that token `r` takes: row 0 for a context token, its sequence's for a latent one. -/
def modRow (r : ℕ) : Fin 16 := ⟨if r < 4096 then 0 else 1 + (r - 4096) / 2048 % 15, by split <;> omega⟩

section
open Cert.OutProjIdeal Cert.OutProjIdeal.Gen

/-- The residual plus the gated projection. -/
def G (x : FVec Ideal S20480x2048 .bf16) (w : FVec Ideal S2048x2048 .f32) (r : FVec Ideal S20480x2048 .f32)
    (md : FVec Ideal S16x6x1x2048 .f32) : FVec Ideal S20480x2048 .f32 := fun i =>
  r i + md (ix4 (modRow (i 0).val) (2 : Fin 6) (0 : Fin 1) (i 1)) * ∑ k : Fin 2048, x (ix2 (i 0) k) * w (ix2 k (i 1))

/-- Where the blocks of the projected rows lie. -/
theorem idx_0 : ∀ t : Fin cfg0.N, win0_0.index t = ![t.val, 0] := (by decide +kernel : ∀ t : Fin grid0.N, _)
/-- Where the weight lies: it is one block. -/
theorem idx_1 : ∀ t : Fin cfg0.N, win0_1.index t = ![0, 0] := (by decide +kernel : ∀ t : Fin grid0.N, _)
/-- Where the blocks of the residual lie. -/
theorem idx_2 : ∀ t : Fin cfg0.N, win0_2.index t = ![t.val, 0] := (by decide +kernel : ∀ t : Fin grid0.N, _)
/-- Where the gate of a block of tokens lies. -/
theorem idx_3 : ∀ t : Fin cfg0.N, win0_3.index t = ![(modRow (512 * t.val)).val, 2, 0, 0] :=
  (by decide +kernel : ∀ t : Fin grid0.N, _)
/-- Where the blocks of the result lie. -/
theorem idx_4 : ∀ t : Fin cfg0.N, win0_4.index t = ![t.val, 0] := (by decide +kernel : ∀ t : Fin grid0.N, _)

/-- A block of 512 tokens is of one sequence. -/
theorem modRow_blk (t j : ℕ) (hj : j < 512) : modRow (t * 512 + j) = modRow (512 * t) := by
  unfold modRow
  apply Fin.ext
  dsimp only
  split <;> split <;> omega

variable (m : (ℓ : Loc nD τ sig) → Buf (Elt Ideal) ℓ) (c : Dev nD)

/-- The weight the kernel is handed is the argument. -/
theorem V_w : (V m c main_v0 : FVec Ideal S2048x2048 .bf16) = m ((c : Thread nD τ).loc main_arg1) := by
  show StableHlo.after _ _ _ = _
  simp only [hostOps0]
  simp only [StableHlo.after_cons, StableHlo.after_nil]
  after_results_simp
  rfl

/-- What the body stores at an index. -/
theorem pay (a : FVec Ideal S512x2048 .bf16) (w : FVec Ideal S2048x2048 .bf16) (r : FVec Ideal S512x2048 .f32)
    (g : FVec Ideal S1x1x1x2048 .f32) (y : S512x2048.Idx) : k0_pay1 (F := Ideal) a w r g y =
      r y + g (ix4 (0 : Fin 1) (0 : Fin 1) (0 : Fin 1) (y 1)) * ∑ k : Fin 2048, a (ix2 (y 0) k) * w (ix2 k (y 1)) := by
  idx_vars y
  pointwise [k0_pay1]

/-- A block of the projected rows. -/
theorem blk_0 (t : Fin cfg0.N) (i : Fin 512) (k : Fin 2048) (j : Fin 20480) (hj : j.val = t.val * 512 + i.val) :
    (iblk m c 0 t : FVec Ideal S512x2048 .bf16) (ix2 i k) = m ((c : Thread nD τ).loc main_arg0) (ix2 j k) := by
  blk_simp [iblk, idx_0]
  rw [V_main_arg0]
  congr 1
  blk_ext [idx_0]

/-- The weight's block. -/
theorem blk_1 (t : Fin cfg0.N) (i k : Fin 2048) :
    (iblk m c 1 t : FVec Ideal S2048x2048 .bf16) (ix2 i k) = m ((c : Thread nD τ).loc main_arg1) (ix2 i k) := by
  rw [← V_w m c]
  blk_simp [iblk, idx_1]
  congr 1
  blk_ext [idx_1]

/-- A block of the residual. -/
theorem blk_2 (t : Fin cfg0.N) (i : Fin 512) (k : Fin 2048) (j : Fin 20480) (hj : j.val = t.val * 512 + i.val) :
    (iblk m c 2 t : FVec Ideal S512x2048 .f32) (ix2 i k) = m ((c : Thread nD τ).loc main_arg2) (ix2 j k) := by
  blk_simp [iblk, idx_2]
  rw [V_main_arg2]
  congr 1
  blk_ext [idx_2]

/-- The gate's block. -/
theorem blk_3 (t : Fin cfg0.N) (i : Fin 512) (k : Fin 2048) (j : Fin 20480) (hj : j.val = t.val * 512 + i.val) :
    (iblk m c 3 t : FVec Ideal S1x1x1x2048 .f32) (ix4 (0 : Fin 1) (0 : Fin 1) (0 : Fin 1) k) =
      m ((c : Thread nD τ).loc main_arg3) (ix4 (modRow j.val) (2 : Fin 6) (0 : Fin 1) k) := by
  rw [hj, modRow_blk _ _ i.isLt]
  blk_simp [iblk, idx_3]
  rw [V_main_arg3]
  congr 1
  blk_ext [idx_3]

/-- The kernel's result array. -/
theorem final : (dats m 0 c).arrAt 4 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  have ht : t.val < 40 := lt_of_lt_of_eq t.isLt N_0
  have key : ∀ (i : Fin 512) (k : Fin 2048) (j : Fin 20480), j.val = t.val * 512 + i.val →
      k0_pay1 (F := Ideal) (iblk m c 0 t) (iblk m c 1 t) (iblk m c 2 t) (iblk m c 3 t) (ix2 i k) =
      G (m ((c : Thread nD τ).loc main_arg0)) (m ((c : Thread nD τ).loc main_arg1))
        (m ((c : Thread nD τ).loc main_arg2)) (m ((c : Thread nD τ).loc main_arg3)) (ix2 j k) := by
    intro i k j hj
    refine (pay _ _ _ _ _).trans ?_
    unfold G
    refine congr (congrArg _ (blk_2 m c t i k j hj)) (congr (congrArg _ (blk_3 m c t i k j hj)) ?_)
    refine Finset.sum_congr rfl fun l _ => ?_
    exact congr (congrArg _ (blk_0 m c t i l j hj)) (blk_1 m c t l k)
  have y0 : (y 0).val < 512 := (y 0).isLt
  have y1 : (y 1).val < 2048 := (y 1).isLt
  refine Eq.trans (congrArg _ ?_) ((key ⟨(y 0).val, y0⟩ ⟨(y 1).val, y1⟩ ⟨t.val * 512 + (y 0).val, by omega⟩ rfl).trans
    (congrArg _ ?_))
  · funext a; fin_cases a <;> rfl
  · blk_ext [idx_4]
end

section
open Cert.OutProjRefIdeal Cert.OutProjRefIdeal.Gen

set_option maxHeartbeats 2000000 in
/-- The reference's result array. -/
theorem ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v25) = G (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.OutProjRefIdeal.Value.run (F := Ideal) m g)
  funext y
  idx_vars y
  pointwise [G]
  have b := y0.isLt
  by_cases h : y0.val < 4096
  · rw [dif_pos h]
    have e : ∀ q, (⟨y0.val / 256 * 256 + y0.val % 256, q⟩ : Fin 20480) = y0 := fun _ => Fin.ext (by dsimp only; omega)
    have e' : modRow y0.val = 0 := Fin.ext (if_pos h)
    simp only [e, e']
  · rw [dif_neg h]
    have e : ∀ q, (⟨4096 + ((y0.val - 4096) / 2048 * 2048 + (y0.val - 4096) % 2048), q⟩ : Fin 20480) = y0 :=
      fun _ => Fin.ext (by dsimp only; omega)
    have e' : ∀ q, (⟨1 + (y0.val - 4096) / 2048, q⟩ : Fin 16) = modRow y0.val := fun _ => Fin.ext (by
      unfold modRow
      dsimp only
      rw [if_neg h]
      omega)
    simp only [e, e']
end
end Cert.OutVal
end
end
-- ==== Proof.InVal.lean ====
/-
  The in-projection: what the kernel leaves in its result array, and that the reference leaves the same.
-/
module

public import proofs.«01_k».proof.Proof.Gen.InProjIdeal.Value
public import proofs.«01_k».proof.Proof.Gen.InProjRefIdeal.Run
public import proofs.«01_k».proof.Proof.OutVal

@[expose] public section

set_option maxRecDepth 16384

noncomputable section

namespace Cert.InVal

open Idealize.ShloMosaic Idealize.ShloMosaic.TcCoe Idealize.SL.Sem
open Cert.OutVal (modRow)

section
open Cert.InProjIdeal Cert.InProjIdeal.Gen

/-- What the body keeps of a block of tokens, at an index. -/
theorem pay1 (x : FVec Ideal S1024x2048 .f32) (nw : FVec Ideal S1x2048 .f32) (sc sh : FVec Ideal S1x1x1x2048 .f32)
    (i : Fin 1024) (k : Fin 2048) : k0_pay1 (F := Ideal) x nw sc sh (ix2 i k) =
      x (ix2 i k) * Ideal.rsqrt (Ideal.div (∑ l, x (ix2 i l) * x (ix2 i l)) (Ideal.ofBits .f32 1157627904#32) +
        Ideal.ofBits .f32 897988541#32) * nw (ix2 (0 : Fin 1) k) * (1 + sc (ix4 (0 : Fin 1) (0 : Fin 1) (0 : Fin 1) k))
        + sh (ix4 (0 : Fin 1) (0 : Fin 1) (0 : Fin 1) k) := by
  pointwise [k0_pay1]

/-- What the body stores of a block, at an index. -/
theorem pay2 (h : FVec Ideal S1024x2048 .bf16) (w : FVec Ideal S2048x1152 .bf16)
    (i : Fin 1024) (k : Fin 1152) : k0_pay2 (F := Ideal) h w (ix2 i k) = ∑ l : Fin 2048, h (ix2 i l) * w (ix2 l k) := by
  pointwise [k0_pay2]

variable (m : (ℓ : Loc nD τ sig) → Buf (Elt Ideal) ℓ) (c : Dev nD)

/-- The norm's weights the kernel is handed are the argument. -/
theorem V_nw (k : Fin 2048) : (V m c main_v0 : FVec Ideal S1x2048 .f32) (ix2 (0 : Fin 1) k) =
    m ((c : Thread nD τ).loc main_arg1) (ix1 k) := by
  have e : (V m c main_v0 : FVec Ideal S1x2048 .f32) = shapeCast S1x2048 (m ((c : Thread nD τ).loc main_arg1)) shapeCasts_S2048_S1x2048 := by
    show StableHlo.after _ _ _ = _
    simp only [hostOps0]
    simp only [StableHlo.after_cons, StableHlo.after_nil]
    after_results_simp
    rfl
  rw [e]
  pointwise

/-- The first block of columns of a block of tokens keeps the block's modulated rows. -/
theorem s_A (t : Fin cfg0.N) (h0 : t.val % 9 = 0) : (outsAt0 m c t.val t.isLt).2 =
    k0_pay1 (F := Ideal) (iblk m c 0 t) (iblk m c 1 t) (iblk m c 2 t) (iblk m c 3 t) := by
  rw [outsAt0_A m c t h0]
  frame_out

/-- The further blocks of columns leave them as they are. -/
theorem s_B (t : Fin cfg0.N) (h0 : ¬t.val % 9 = 0) : (outsAt0 m c t.val t.isLt).2 =
    (outsAt0 m c (t.val - 1) (Nat.lt_of_le_of_lt (Nat.sub_le _ _) t.isLt)).2 := by
  rw [outsAt0_B m c t h0]
  rfl

/-- Every point stores the product of the kept rows and its columns of the weight. -/
theorem o_AB (t : Fin cfg0.N) : (outsAt0 m c t.val t.isLt).1 =
    k0_pay2 (F := Ideal) (outsAt0 m c t.val t.isLt).2 (iblk m c 4 t) := by
  by_cases h0 : t.val % 9 = 0
  · rw [s_A m c t h0, outsAt0_A m c t h0]
    frame_out
  · rw [s_B m c t h0, outsAt0_B m c t h0]
    frame_out
    exact congrArg (fun z => k0_pay2 (F := Ideal) z (iblk m c 4 t)) (Memref.IsWhole.read_unread _ _)

/-- The modulated norm of the tokens. -/
def hid (x : FVec Ideal S20480x2048 .f32) (nw : FVec Ideal S2048 .f32) (md : FVec Ideal S16x6x1x2048 .f32)
    (j : Fin 20480) (k : Fin 2048) : EReal :=
  x (ix2 j k) * Ideal.rsqrt (Ideal.div (∑ l, x (ix2 j l) * x (ix2 j l)) (Ideal.ofBits .f32 1157627904#32) +
    Ideal.ofBits .f32 897988541#32) * nw (ix1 k) * (1 + md (ix4 (modRow j.val) (1 : Fin 6) (0 : Fin 1) k))
    + md (ix4 (modRow j.val) (0 : Fin 6) (0 : Fin 1) k)

/-- Its product with the weight. -/
def G (x : FVec Ideal S20480x2048 .f32) (nw : FVec Ideal S2048 .f32) (md : FVec Ideal S16x6x1x2048 .f32)
    (w : FVec Ideal S2048x10368 .bf16) : FVec Ideal S20480x10368 .f32 := fun i =>
  ∑ k : Fin 2048, hid x nw md (i 0) k * w (ix2 k (i 1))

/-- Where the blocks of the tokens lie. -/
theorem idx_0 : ∀ t : Fin cfg0.N, win0_0.index t = ![t.val / 9, 0] := (by decide +kernel : ∀ t : Fin grid0.N, _)
/-- Where the norm's weights lie: they are one block. -/
theorem idx_1 : ∀ t : Fin cfg0.N, win0_1.index t = ![0, 0] := (by decide +kernel : ∀ t : Fin grid0.N, _)
/-- Where the scale of a block of tokens lies. -/
theorem idx_2 : ∀ t : Fin cfg0.N, win0_2.index t = ![(modRow (1024 * (t.val / 9))).val, 1, 0, 0] :=
  (by decide +kernel : ∀ t : Fin grid0.N, _)
/-- Where the shift of a block of tokens lies. -/
theorem idx_3 : ∀ t : Fin cfg0.N, win0_3.index t = ![(modRow (1024 * (t.val / 9))).val, 0, 0, 0] :=
  (by decide +kernel : ∀ t : Fin grid0.N, _)
/-- Where the blocks of columns of the weight lie. -/
theorem idx_4 : ∀ t : Fin cfg0.N, win0_4.index t = ![0, t.val % 9] := (by decide +kernel : ∀ t : Fin grid0.N, _)
/-- Where the blocks of the result lie. -/
theorem idx_5 : ∀ t : Fin cfg0.N, win0_5.index t = ![t.val / 9, t.val % 9] := (by decide +kernel : ∀ t : Fin grid0.N, _)

/-- A block of 1024 tokens is of one sequence, or of the context. -/
theorem modRow_blk (t j : ℕ) (hj : j < 1024) : modRow (t * 1024 + j) = modRow (1024 * t) := by
  unfold modRow
  apply Fin.ext
  dsimp only
  split <;> split <;> omega

/-- A block of the tokens. -/
theorem blk_0 (t : Fin cfg0.N) (i : Fin 1024) (k : Fin 2048) (j : Fin 20480) (hj : j.val = t.val / 9 * 1024 + i.val) :
    (iblk m c 0 t : FVec Ideal S1024x2048 .f32) (ix2 i k) = m ((c : Thread nD τ).loc main_arg0) (ix2 j k) := by
  blk_simp [iblk, idx_0]
  rw [V_main_arg0]
  congr 1
  blk_ext [idx_0]

/-- The block of the norm's weights. -/
theorem blk_1 (t : Fin cfg0.N) (k : Fin 2048) :
    (iblk m c 1 t : FVec Ideal S1x2048 .f32) (ix2 (0 : Fin 1) k) = m ((c : Thread nD τ).loc main_arg1) (ix1 k) := by
  rw [← V_nw m c]
  blk_simp [iblk, idx_1]
  congr 1
  blk_ext [idx_1]

/-- The scale's block. -/
theorem blk_2 (t : Fin cfg0.N) (i : Fin 1024) (k : Fin 2048) (j : Fin 20480) (hj : j.val = t.val / 9 * 1024 + i.val) :
    (iblk m c 2 t : FVec Ideal S1x1x1x2048 .f32) (ix4 (0 : Fin 1) (0 : Fin 1) (0 : Fin 1) k) =
      m ((c : Thread nD τ).loc main_arg2) (ix4 (modRow j.val) (1 : Fin 6) (0 : Fin 1) k) := by
  rw [hj, modRow_blk _ _ i.isLt]
  blk_simp [iblk, idx_2]
  rw [V_main_arg2]
  congr 1
  blk_ext [idx_2]

/-- The shift's block. -/
theorem blk_3 (t : Fin cfg0.N) (i : Fin 1024) (k : Fin 2048) (j : Fin 20480) (hj : j.val = t.val / 9 * 1024 + i.val) :
    (iblk m c 3 t : FVec Ideal S1x1x1x2048 .f32) (ix4 (0 : Fin 1) (0 : Fin 1) (0 : Fin 1) k) =
      m ((c : Thread nD τ).loc main_arg2) (ix4 (modRow j.val) (0 : Fin 6) (0 : Fin 1) k) := by
  rw [hj, modRow_blk _ _ i.isLt]
  blk_simp [iblk, idx_3]
  rw [V_main_arg2]
  congr 1
  blk_ext [idx_3]

/-- A block of columns of the weight. -/
theorem blk_4 (t : Fin cfg0.N) (l : Fin 2048) (i : Fin 1152) (j : Fin 10368) (hj : j.val = t.val % 9 * 1152 + i.val) :
    (iblk m c 4 t : FVec Ideal S2048x1152 .bf16) (ix2 l i) = m ((c : Thread nD τ).loc main_arg3) (ix2 l j) := by
  blk_simp [iblk, idx_4]
  rw [V_main_arg3]
  congr 1
  blk_ext [idx_4]

/-- After every point the kept rows are the modulated norm of the point's tokens. -/
theorem kept : ∀ (n : ℕ) (hn : n < cfg0.N) (i : Fin 1024) (k : Fin 2048) (j : Fin 20480), j.val = n / 9 * 1024 + i.val →
    (outsAt0 m c n hn).2 (ix2 i k) = hid (m ((c : Thread nD τ).loc main_arg0)) (m ((c : Thread nD τ).loc main_arg1))
      (m ((c : Thread nD τ).loc main_arg2)) j k := by
  have first : ∀ (t : Fin cfg0.N) (_ : t.val % 9 = 0) (i : Fin 1024) (k : Fin 2048) (j : Fin 20480),
      j.val = t.val / 9 * 1024 + i.val → (outsAt0 m c t.val t.isLt).2 (ix2 i k) =
      hid (m ((c : Thread nD τ).loc main_arg0)) (m ((c : Thread nD τ).loc main_arg1))
      (m ((c : Thread nD τ).loc main_arg2)) j k := by
    intro t h0 i k j hj
    rw [s_A m c t h0]
    refine (pay1 _ _ _ _ i k).trans ?_
    unfold hid
    have e0 := fun l => blk_0 m c t i l j hj
    rw [e0, blk_1 m c t k, blk_2 m c t i k j hj, blk_3 m c t i k j hj]
    simp only [e0]
  intro n
  induction n with
  | zero => exact fun hn => first ⟨0, hn⟩ rfl
  | succ n ih =>
    intro hn i k j hj
    by_cases h0 : (n + 1) % 9 = 0
    · exact first ⟨n + 1, hn⟩ h0 i k j hj
    · rw [s_B m c ⟨n + 1, hn⟩ h0]
      exact ih (by omega) i k j (by omega)

/-- The kernel's result array. -/
theorem final : (dats m 0 c).arrAt 5 cfg0.N = G (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5, o_AB]
  have ht : t.val < 180 := lt_of_lt_of_eq t.isLt N_0
  have key : ∀ (i : Fin 1024) (k : Fin 1152) (j : Fin 20480) (q : Fin 10368), j.val = t.val / 9 * 1024 + i.val →
      q.val = t.val % 9 * 1152 + k.val →
      k0_pay2 (F := Ideal) (outsAt0 m c t.val t.isLt).2 (iblk m c 4 t) (ix2 i k) =
      G (m ((c : Thread nD τ).loc main_arg0)) (m ((c : Thread nD τ).loc main_arg1))
        (m ((c : Thread nD τ).loc main_arg2)) (m ((c : Thread nD τ).loc main_arg3)) (ix2 j q) := by
    intro i k j q hj hq
    refine (pay2 _ _ i k).trans ?_
    unfold G
    refine Finset.sum_congr rfl fun l _ => ?_
    exact congr (congrArg _ (kept m c t.val t.isLt i l j hj)) (blk_4 m c t l k q hq)
  have y0 : (y 0).val < 1024 := (y 0).isLt
  have y1 : (y 1).val < 1152 := (y 1).isLt
  refine Eq.trans (congrArg _ ?_) ((key ⟨(y 0).val, y0⟩ ⟨(y 1).val, y1⟩ ⟨t.val / 9 * 1024 + (y 0).val, by omega⟩
    ⟨t.val % 9 * 1152 + (y 1).val, by omega⟩ rfl rfl).trans (congrArg _ ?_))
  · funext a; fin_cases a <;> rfl
  · blk_ext [idx_5]
end

section
open Cert.InProjRefIdeal Cert.InProjRefIdeal.Gen

/-- The reference's product at an index. -/
theorem dot (h : FVec Ideal S20480x2048 .f32) (w : FVec Ideal S2048x10368 .bf16) (i : Fin 20480) (k : Fin 10368) :
    Host.dotGeneral (F := Ideal) dot_S20480x2048_S2048x10368_S20480x10368_1_0_0_1_n_n none h
      (extf .f32 w bitsLt_bf16_f32) (ix2 i k) = ∑ l : Fin 2048, h (ix2 i l) * w (ix2 l k) := by
  pointwise

set_option maxRecDepth 65536 in
set_option maxHeartbeats 4000000 in
/-- The reference's result array. -/
theorem ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v61) = G (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.InProjRefIdeal.Value.run (F := Ideal) m g)
  clear h
  funext y
  idx_vars y
  unfold Cert.InProjRefIdeal.Value.res_main_v61
  refine (dot _ _ _ _).trans ?_
  unfold G
  refine Finset.sum_congr rfl fun k _ => congrArg (· * _) ?_
  pointwise [hid]
  have b := y0.isLt
  by_cases h : y0.val < 4096
  · rw [dif_pos h]
    have e : ∀ q, (⟨y0.val / 256 * 256 + y0.val % 256, q⟩ : Fin 20480) = y0 := fun _ => Fin.ext (by dsimp only; omega)
    have e' : modRow y0.val = 0 := Fin.ext (if_pos h)
    simp only [e, e']
  · rw [dif_neg h]
    have e : ∀ q, (⟨4096 + ((y0.val - 4096) / 2048 * 2048 + (y0.val - 4096) % 2048), q⟩ : Fin 20480) = y0 :=
      fun _ => Fin.ext (by dsimp only; omega)
    have e' : ∀ q, (⟨1 + (y0.val - 4096) / 2048, q⟩ : Fin 16) = modRow y0.val := fun _ => Fin.ext (by
      unfold modRow
      dsimp only
      rw [if_neg h]
      omega)
    simp only [e, e']
end
end Cert.InVal
end
end
-- ==== Proof.MergeVal.lean ====
/-
  The merge of the branches: what the kernel leaves in its result array, and that the reference leaves the same.
-/
module

public import proofs.«01_k».proof.Proof.Gen.MergeIdeal.Value
public import proofs.«01_k».proof.Proof.Gen.MergeRefIdeal.Run
public import proofs.«01_k».proof.Defs
public import Idealize.ShloMosaic.Lib.Pointwise
public import Idealize.ShloMosaic.Lib.Pipeline.ReadBack
public import Idealize.ShloMosaic.Lib.Pipeline.ValueKit
public import Idealize.ShloMosaic.PureOps.Ideal

@[expose] public section

set_option maxRecDepth 65536

noncomputable section

namespace Cert.MergeVal

open Idealize.ShloMosaic Idealize.ShloMosaic.TcCoe Idealize.SL.Sem

/-- The sigmoid. -/
def sg (z : EReal) : EReal := Ideal.div 1 (1 + Ideal.exp (-z))

/-- A token's outputs, normed over each head of 128 columns and gated. -/
def hn (o : Fin 1024 → EReal) (w : Fin 128 → EReal) (z : Fin 1024 → EReal) (l : Fin 1024) : EReal :=
  o l * Ideal.rsqrt (Ideal.div (∑ e : Fin 128, o ⟨l.val / 128 * 128 + e.val, by omega⟩ * o ⟨l.val / 128 * 128 + e.val, by omega⟩)
    (Ideal.ofBits FTy.f32 1124073472#32) + Ideal.ofBits FTy.f32 897988541#32) * w ⟨l.val % 128, by omega⟩ * (z l * sg (z l))

/-- The same for equal numbers. -/
theorem hn_congr {o o' : Fin 1024 → EReal} {w w' : Fin 128 → EReal} {z z' : Fin 1024 → EReal} (ho : ∀ l, o l = o' l)
    (hw : ∀ e, w e = w' e) (hz : ∀ l, z l = z' l) (l : Fin 1024) : hn o w z l = hn o' w' z' l := by
  rw [funext ho, funext hw, funext hz]

/-- Sums of equals. -/
theorem add_congr {a a' b b' : EReal} (ha : a = a') (hb : b = b') : a + b = a' + b' := by rw [ha, hb]
/-- Products of equals. -/
theorem mul_congr {a a' b b' : EReal} (ha : a = a') (hb : b = b') : a * b = a' * b' := by rw [ha, hb]

section
open Cert.MergeIdeal Cert.MergeIdeal.Gen

/-- The head's columns of a block. -/
def col (X : FVec Ideal S256x1024 .f32) (o : ℕ) (inb : ∀ a, (![0, o] : Fin 2 → ℕ) a + (![256, 128] : Fin 2 → ℕ) a ≤ S256x1024.size a) :
    FVec Ideal S256x128 .f32 :=
  View.ld (Val := Elt Ideal) (e' := .f32) X (Rect.unit (s := S256x1024) ![0, o] ![256, 128] inb)

/-- What the body stores of the head whose columns start at `o`. -/
def piece (A B Z : FVec Ideal S256x1024 .f32) (w : FVec Ideal S1x128 .f32) (o : ℕ)
    (inb : ∀ a, (![0, o] : Fin 2 → ℕ) a + (![256, 128] : Fin 2 → ℕ) a ≤ S256x1024.size a) :
    View.Piece (Elt Ideal) S256x1024 .bf16 :=
  ⟨Rect.unit (s := S256x1024) ![0, o] ![256, 128] inb, k0_pay2 (F := Ideal) (col A o inb) (col B o inb) (col Z o inb) w⟩

/-- The eight heads' pieces. -/
def pieces (A B Z : FVec Ideal S256x1024 .f32) (w : FVec Ideal S1x128 .f32) : List (View.Piece (Elt Ideal) S256x1024 .bf16) :=
  [piece A B Z w 896 (by decide), piece A B Z w 768 (by decide), piece A B Z w 640 (by decide), piece A B Z w 512 (by decide),
    piece A B Z w 384 (by decide), piece A B Z w 256 (by decide), piece A B Z w 128 (by decide), piece A B Z w 0 (by decide)]

section
variable (a b z : FVec Ideal S256x128 .f32) (w : FVec Ideal S1x128 .f32)
/-- Head 1 is computed as head 0 is. -/
theorem eq_5 : k0_pay5 (F := Ideal) (k0_pay3 a b) (k0_pay4 a b) z w = k0_pay2 (F := Ideal) a b z w := rfl
/-- Head 2 is computed as head 0 is. -/
theorem eq_7 : k0_pay7 (F := Ideal) z (k0_pay6 a b) w = k0_pay2 (F := Ideal) a b z w := rfl
/-- Head 3 is computed as head 0 is. -/
theorem eq_11 : k0_pay11 (F := Ideal) z (k0_pay8 a b w) (k0_pay9 z) k0_pay10 = k0_pay2 (F := Ideal) a b z w := rfl
/-- Head 4 is computed as head 0 is. -/
theorem eq_12 : k0_pay12 (F := Ideal) a b z w = k0_pay2 (F := Ideal) a b z w := rfl
/-- Head 5 is computed as head 0 is. -/
theorem eq_13 : k0_pay13 (F := Ideal) a b z w = k0_pay2 (F := Ideal) a b z w := rfl
/-- Head 6 is computed as head 0 is. -/
theorem eq_16 : k0_pay16 (F := Ideal) (k0_pay14 a b) (k0_pay15 a b) z w = k0_pay2 (F := Ideal) a b z w := rfl
/-- Head 7 is computed as head 0 is. -/
theorem eq_18 : k0_pay18 (F := Ideal) z (k0_pay17 a b) w = k0_pay2 (F := Ideal) a b z w := rfl
end

section
variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .bf16) (harg4 : arg4.IsWhole)
  (arg5 : Memref sig .tc .vmem S256x2048 .f32) (harg5 : arg5.IsWhole)
  (arg6 : Memref sig .tc .vmem S256x2048 .f32) (harg6 : arg6.IsWhole)
  (arg7 : Memref sig .tc .vmem S1x128 .f32) (harg7 : arg7.IsWhole)
  (arg8 : Memref sig .tc .vmem S1024x2048 .bf16) (harg8 : arg8.IsWhole)
  (arg9 : Memref sig .tc .vmem S1024x2048 .bf16) (harg9 : arg9.IsWhole)
  (arg10 : Memref sig .tc .vmem S256x2048 .bf16) (harg10 : arg10.IsWhole)
  (arg11 : Memref sig .tc .vmem S256x1024 .bf16) (harg11 : arg11.IsWhole)
  (x0 : Vec Ideal S256x1024 .f32)
  (x1 : Vec Ideal S256x1024 .f32)
  (x2 : Vec Ideal S256x1024 .f32)
  (x3 : Vec Ideal S256x1024 .bf16)
  (x4 : Vec Ideal S256x2048 .f32)
  (x5 : Vec Ideal S256x2048 .f32)
  (x6 : Vec Ideal S1x128 .f32)
  (x7 : Vec Ideal S1024x2048 .bf16)
  (x8 : Vec Ideal S1024x2048 .bf16)

set_option maxHeartbeats 1000000 in
/-- The block the body leaves. -/
theorem out_A :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 =
      k0_pay1 (F := Ideal) (k0_pay19 (F := Ideal) x3 x8) (k0_pay20 (F := Ideal) (View.canon (pieces x0 x1 x2 x6)) x7 x4) x5 := by
  unfold out0_A_9
  frame_open
  simp (disch := decide) only [↓ View.readCov_skip, ↓ View.readCov_cons_toLoadRect, ↓ View.readCov_fill]
  frame_out
  simp only [eq_5, eq_7, eq_11, eq_12, eq_13, eq_16, eq_18]
  refine congrArg (fun H => k0_pay1 (F := Ideal) (k0_pay19 (F := Ideal) x3 x8) (k0_pay20 (F := Ideal) H x7 x4) x5) ?_
  refine (View.readCov_eq_canon' _ (pieces x0 x1 x2 x6) _).trans ?_
  funext j
  refine congrArg _ ?_
  funext a
  fin_cases a
  · exact Fin.ext (show 0 + 1 * (j 0).val = (j 0).val by omega)
  · exact Fin.ext (show 0 + 1 * (j 1).val = (j 1).val by omega)
end

/-- A head's columns at an index. -/
theorem col_apply (X : FVec Ideal S256x1024 .f32) (o : ℕ) (inb) (i : Fin 256) (e : Fin 128) (l : Fin 1024) (hl : l.val = o + e.val) :
    col X o inb (ix2 i e) = X (ix2 i l) := by
  show X _ = X _
  congr 1
  funext a
  fin_cases a
  · exact Fin.ext (show 0 + 1 * i.val = i.val by omega)
  · exact Fin.ext (show o + 1 * e.val = l.val by omega)

/-- What the body stores of a head, at an index. -/
theorem pay2 (a b z : FVec Ideal S256x128 .f32) (w : FVec Ideal S1x128 .f32) (i : Fin 256) (e : Fin 128) :
    k0_pay2 (F := Ideal) a b z w (ix2 i e) =
      (a (ix2 i e) + b (ix2 i e)) * Ideal.rsqrt (Ideal.div (∑ k : Fin 128, (a (ix2 i k) + b (ix2 i k)) * (a (ix2 i k) + b (ix2 i k)))
    (Ideal.ofBits FTy.f32 1124073472#32) + Ideal.ofBits FTy.f32 897988541#32) * w (ix2 (0 : Fin 1) e) * (z (ix2 i e) * sg (z (ix2 i e))) := by
  pointwise [k0_pay2, sg]
  simp only [zero_sub]

/-- What the body stores of the result, at an index. -/
theorem pay1 (H S : FVec Ideal S256x1024 .bf16) (wa wb : FVec Ideal S1024x2048 .bf16) (ga gb : FVec Ideal S256x2048 .f32)
    (i : Fin 256) (e : Fin 2048) :
    k0_pay1 (F := Ideal) (k0_pay19 (F := Ideal) S wb) (k0_pay20 (F := Ideal) H wa ga) gb (ix2 i e) =
      sg (ga (ix2 i e)) * ∑ l : Fin 1024, H (ix2 i l) * wa (ix2 l e) + sg (gb (ix2 i e)) * ∑ l : Fin 1024, S (ix2 i l) * wb (ix2 l e) := by
  pointwise [k0_pay1, k0_pay19, k0_pay20, sg]
  simp only [zero_sub]

/-- The normed and gated rows of a block. -/
def rows (A B Z : FVec Ideal S256x1024 .f32) (w : FVec Ideal S1x128 .f32) : FVec Ideal S256x1024 .bf16 := fun y =>
  hn (fun l => A (ix2 (y 0) l) + B (ix2 (y 0) l)) (fun e => w (ix2 (0 : Fin 1) e)) (fun l => Z (ix2 (y 0) l)) (y 1)

/-- A head's piece is the normed and gated rows there. -/
theorem piece_val (A B Z : FVec Ideal S256x1024 .f32) (w : FVec Ideal S1x128 .f32) (h : ℕ) (hh : h < 8) (inb)
    (x : (piece A B Z w (128 * h) inb).1.shape.Idx) :
    (piece A B Z w (128 * h) inb).2 x = rows A B Z w ((piece A B Z w (128 * h) inb).1.emb x) := by
  have key : ∀ (i : Fin 256) (e : Fin 128) (l : Fin 1024), l.val = 128 * h + e.val →
      k0_pay2 (F := Ideal) (col A (128 * h) inb) (col B (128 * h) inb) (col Z (128 * h) inb) w (ix2 i e) = rows A B Z w (ix2 i l) := by
    intro i e l hl
    refine (pay2 _ _ _ _ i e).trans ?_
    have eA : ∀ k : Fin 128, col A (128 * h) inb (ix2 i k) = A (ix2 i ⟨l.val / 128 * 128 + k.val, by omega⟩) :=
      fun k => col_apply A _ inb i k _ (by dsimp only; omega)
    have eB : ∀ k : Fin 128, col B (128 * h) inb (ix2 i k) = B (ix2 i ⟨l.val / 128 * 128 + k.val, by omega⟩) :=
      fun k => col_apply B _ inb i k _ (by dsimp only; omega)
    have ee : e = ⟨l.val % 128, by omega⟩ := Fin.ext (by dsimp only; omega)
    rw [col_apply A _ inb i e l hl, col_apply B _ inb i e l hl, col_apply Z _ inb i e l hl]
    simp only [eA, eB]
    have ew := congrArg (fun q => w (ix2 (0 : Fin 1) q)) ee
    rw [ew]
    rfl
  have x0 : (x 0).val < 256 := (x 0).isLt
  have x1 : (x 1).val < 128 := (x 1).isLt
  refine Eq.trans (congrArg _ ?_) ((key ⟨(x 0).val, x0⟩ ⟨(x 1).val, x1⟩ ⟨128 * h + (x 1).val, by omega⟩ rfl).trans (congrArg _ ?_))
  · funext a; fin_cases a <;> rfl
  · funext a
    fin_cases a
    · exact Fin.ext (show (x 0).val = 0 + 1 * (x 0).val by omega)
    · exact Fin.ext (show 128 * h + (x 1).val = 128 * h + 1 * (x 1).val by omega)

/-- The eight heads' pieces cover the kept rows. -/
theorem pieces_cover (A B Z : FVec Ideal S256x1024 .f32) (w : FVec Ideal S1x128 .f32) (y : S256x1024.Idx) :
    ∃ p ∈ pieces A B Z w, y ∈ p.1.set := by
  have hc : ∀ (o : ℕ) (inb), o ≤ (y 1 : ℕ) → (y 1 : ℕ) < o + 128 → y ∈ (piece A B Z w o inb).1.set := fun o inb e1 e2 => by
    refine (Rect.mem_set_unit (inb := inb)).mpr fun a => ?_
    have h1 : (y 0 : ℕ) < 256 := (y 0).isLt
    fin_cases a
    · show 0 ≤ (y 0 : ℕ) ∧ (y 0 : ℕ) < 0 + 256
      omega
    · exact ⟨e1, e2⟩
  have h0 : (y 1 : ℕ) < 1024 := (y 1).isLt
  have : (y 1 : ℕ) / 128 = 0 ∨ (y 1 : ℕ) / 128 = 1 ∨ (y 1 : ℕ) / 128 = 2 ∨ (y 1 : ℕ) / 128 = 3 ∨ (y 1 : ℕ) / 128 = 4
      ∨ (y 1 : ℕ) / 128 = 5 ∨ (y 1 : ℕ) / 128 = 6 ∨ (y 1 : ℕ) / 128 = 7 := by omega
  rcases this with e | e | e | e | e | e | e | e
  · exact ⟨piece A B Z w 0 (by decide), by simp [pieces], hc 0 (by decide) (by omega) (by omega)⟩
  · exact ⟨piece A B Z w 128 (by decide), by simp [pieces], hc 128 (by decide) (by omega) (by omega)⟩
  · exact ⟨piece A B Z w 256 (by decide), by simp [pieces], hc 256 (by decide) (by omega) (by omega)⟩
  · exact ⟨piece A B Z w 384 (by decide), by simp [pieces], hc 384 (by decide) (by omega) (by omega)⟩
  · exact ⟨piece A B Z w 512 (by decide), by simp [pieces], hc 512 (by decide) (by omega) (by omega)⟩
  · exact ⟨piece A B Z w 640 (by decide), by simp [pieces], hc 640 (by decide) (by omega) (by omega)⟩
  · exact ⟨piece A B Z w 768 (by decide), by simp [pieces], hc 768 (by decide) (by omega) (by omega)⟩
  · exact ⟨piece A B Z w 896 (by decide), by simp [pieces], hc 896 (by decide) (by omega) (by omega)⟩

/-- The kept rows are the normed and gated rows. -/
theorem pieces_val (A B Z : FVec Ideal S256x1024 .f32) (w : FVec Ideal S1x128 .f32) :
    View.canon (pieces A B Z w) = rows A B Z w := by
  funext y
  refine View.canon_apply_of_pieces _ (pieces A B Z w) (fun p hpm => ?_) y (pieces_cover A B Z w y)
  simp only [pieces, List.mem_cons, List.not_mem_nil, or_false] at hpm
  rcases hpm with e | e | e | e | e | e | e | e <;> subst e
  · exact fun x => piece_val A B Z w 7 (by decide) (by decide) x
  · exact fun x => piece_val A B Z w 6 (by decide) (by decide) x
  · exact fun x => piece_val A B Z w 5 (by decide) (by decide) x
  · exact fun x => piece_val A B Z w 4 (by decide) (by decide) x
  · exact fun x => piece_val A B Z w 3 (by decide) (by decide) x
  · exact fun x => piece_val A B Z w 2 (by decide) (by decide) x
  · exact fun x => piece_val A B Z w 1 (by decide) (by decide) x
  · exact fun x => piece_val A B Z w 0 (by decide) (by decide) x

/-- The normed and gated outputs of a token. -/
def hnG (A B : FVec Ideal S20480x1024 .f32) (P : FVec Ideal S20480x10368 .f32) (w : FVec Ideal S128 .f32) (j : Fin 20480)
    (l : Fin 1024) : EReal :=
  hn (fun l => A (ix2 j l) + B (ix2 j l)) (fun e => w (ix1 e)) (fun l => P (ix2 j ⟨3072 + l.val, by omega⟩)) l

/-- The merge of the branches, at a token and a column. -/
def G' (A B : FVec Ideal S20480x1024 .f32) (P : FVec Ideal S20480x10368 .f32) (S : FVec Ideal S20480x1024 .bf16)
    (w : FVec Ideal S128 .f32) (wa wb : FVec Ideal S1024x2048 .f32) (j : Fin 20480) (k : Fin 2048) : EReal :=
  sg (P (ix2 j ⟨6144 + k.val, by omega⟩)) * ∑ l : Fin 1024, hnG A B P w j l * wa (ix2 l k)
    + sg (P (ix2 j ⟨8192 + k.val, by omega⟩)) * ∑ l : Fin 1024, S (ix2 j l) * wb (ix2 l k)

/-- The merge of the branches. -/
def G (A B : FVec Ideal S20480x1024 .f32) (P : FVec Ideal S20480x10368 .f32) (S : FVec Ideal S20480x1024 .bf16)
    (w : FVec Ideal S128 .f32) (wa wb : FVec Ideal S1024x2048 .f32) : FVec Ideal S20480x2048 .bf16 := fun i =>
  G' A B P S w wa wb (i 0) (i 1)

/-- Where the blocks of window 0 lie. -/
theorem idx_0 : ∀ t : Fin cfg0.N, win0_0.index t = ![t.val, 0] := (by decide +kernel : ∀ t : Fin grid0.N, _)
/-- Where the blocks of window 1 lie. -/
theorem idx_1 : ∀ t : Fin cfg0.N, win0_1.index t = ![t.val, 0] := (by decide +kernel : ∀ t : Fin grid0.N, _)
/-- Where the blocks of window 2 lie. -/
theorem idx_2 : ∀ t : Fin cfg0.N, win0_2.index t = ![t.val, 3] := (by decide +kernel : ∀ t : Fin grid0.N, _)
/-- Where the blocks of window 3 lie. -/
theorem idx_3 : ∀ t : Fin cfg0.N, win0_3.index t = ![t.val, 0] := (by decide +kernel : ∀ t : Fin grid0.N, _)
/-- Where the blocks of window 4 lie. -/
theorem idx_4 : ∀ t : Fin cfg0.N, win0_4.index t = ![t.val, 3] := (by decide +kernel : ∀ t : Fin grid0.N, _)
/-- Where the blocks of window 5 lie. -/
theorem idx_5 : ∀ t : Fin cfg0.N, win0_5.index t = ![t.val, 4] := (by decide +kernel : ∀ t : Fin grid0.N, _)
/-- Where the blocks of window 6 lie. -/
theorem idx_6 : ∀ t : Fin cfg0.N, win0_6.index t = ![0, 0] := (by decide +kernel : ∀ t : Fin grid0.N, _)
/-- Where the blocks of window 7 lie. -/
theorem idx_7 : ∀ t : Fin cfg0.N, win0_7.index t = ![0, 0] := (by decide +kernel : ∀ t : Fin grid0.N, _)
/-- Where the blocks of window 8 lie. -/
theorem idx_8 : ∀ t : Fin cfg0.N, win0_8.index t = ![0, 0] := (by decide +kernel : ∀ t : Fin grid0.N, _)
/-- Where the blocks of window 9 lie. -/
theorem idx_9 : ∀ t : Fin cfg0.N, win0_9.index t = ![t.val, 0] := (by decide +kernel : ∀ t : Fin grid0.N, _)

variable (m : (ℓ : Loc nD τ sig) → Buf (Elt Ideal) ℓ) (c : Dev nD)

/-- The norm's weight the kernel is handed is the argument as a row. -/
theorem V_nw (e : Fin 128) : (V m c main_v0 : FVec Ideal S1x128 .f32) (ix2 (0 : Fin 1) e) = m ((c : Thread nD τ).loc main_arg4) (ix1 e) := by
  have h : (V m c main_v0 : FVec Ideal S1x128 .f32) = shapeCast S1x128 (m ((c : Thread nD τ).loc main_arg4)) shapeCasts_S128_S1x128 := by
    show StableHlo.after _ _ _ = _
    simp only [hostOps0]
    simp only [StableHlo.after_cons, StableHlo.after_nil]
    after_results_simp
    rfl
  rw [h]
  pointwise

/-- The first weight the kernel is handed is the argument. -/
theorem V_wa : (V m c main_v1 : FVec Ideal S1024x2048 .bf16) = m ((c : Thread nD τ).loc main_arg5) := by
  show StableHlo.after _ _ _ = _
  simp only [hostOps0]
  simp only [StableHlo.after_cons, StableHlo.after_nil]
  after_results_simp
  rfl

/-- The second weight the kernel is handed is the argument. -/
theorem V_wb : (V m c main_v2 : FVec Ideal S1024x2048 .bf16) = m ((c : Thread nD τ).loc main_arg6) := by
  show StableHlo.after _ _ _ = _
  simp only [hostOps0]
  simp only [StableHlo.after_cons, StableHlo.after_nil]
  after_results_simp
  rfl

/-- A block of the outputs forward in time. -/
theorem blk_0 (t : Fin cfg0.N) (i : Fin 256) (k : Fin 1024) (j : Fin 20480) (hj : j.val = t.val * 256 + i.val) :
    (iblk m c 0 t : FVec Ideal S256x1024 .f32) (ix2 i k) = m ((c : Thread nD τ).loc main_arg0) (ix2 j k) := by
  blk_simp [iblk, idx_0]
  rw [V_main_arg0]
  congr 1
  blk_ext [idx_0]

/-- A block of the outputs backward in time. -/
theorem blk_1 (t : Fin cfg0.N) (i : Fin 256) (k : Fin 1024) (j : Fin 20480) (hj : j.val = t.val * 256 + i.val) :
    (iblk m c 1 t : FVec Ideal S256x1024 .f32) (ix2 i k) = m ((c : Thread nD τ).loc main_arg1) (ix2 j k) := by
  blk_simp [iblk, idx_1]
  rw [V_main_arg1]
  congr 1
  blk_ext [idx_1]

/-- A block of the spatial branch. -/
theorem blk_3 (t : Fin cfg0.N) (i : Fin 256) (k : Fin 1024) (j : Fin 20480) (hj : j.val = t.val * 256 + i.val) :
    (iblk m c 3 t : FVec Ideal S256x1024 .bf16) (ix2 i k) = m ((c : Thread nD τ).loc main_arg3) (ix2 j k) := by
  blk_simp [iblk, idx_3]
  rw [V_main_arg3]
  congr 1
  blk_ext [idx_3]

/-- The norm's weight. -/
theorem blk_6 (t : Fin cfg0.N) (e : Fin 128) :
    (iblk m c 6 t : FVec Ideal S1x128 .f32) (ix2 (0 : Fin 1) e) = m ((c : Thread nD τ).loc main_arg4) (ix1 e) := by
  rw [← V_nw m c]
  blk_simp [iblk, idx_6]
  congr 1
  blk_ext [idx_6]

/-- The first branch's weight. -/
theorem blk_7 (t : Fin cfg0.N) (i : Fin 1024) (k : Fin 2048) :
    (iblk m c 7 t : FVec Ideal S1024x2048 .bf16) (ix2 i k) = m ((c : Thread nD τ).loc main_arg5) (ix2 i k) := by
  rw [← V_wa m c]
  blk_simp [iblk, idx_7]
  congr 1
  blk_ext [idx_7]

/-- The second branch's weight. -/
theorem blk_8 (t : Fin cfg0.N) (i : Fin 1024) (k : Fin 2048) :
    (iblk m c 8 t : FVec Ideal S1024x2048 .bf16) (ix2 i k) = m ((c : Thread nD τ).loc main_arg6) (ix2 i k) := by
  rw [← V_wb m c]
  blk_simp [iblk, idx_8]
  congr 1
  blk_ext [idx_8]

/-- A block of the projected columns of window 2. -/
theorem blk_2 (t : Fin cfg0.N) (i : Fin 256) (k : Fin 1024) (j : Fin 20480) (q : Fin 10368) (hj : j.val = t.val * 256 + i.val)
    (hq : q.val = 3072 + k.val) :
    (X0_2 m c t : FVec Ideal S256x1024 .f32) (ix2 i k) = m ((c : Thread nD τ).loc main_arg2) (ix2 j q) := by
  unfold X0_2 Pipeline.Window.fill
  rw [dif_pos (moved0_2 t _)]
  blk_simp [iblk, idx_2]
  rw [V_main_arg2]
  congr 1
  blk_ext [idx_2]

/-- A block of the projected columns of window 4. -/
theorem blk_4 (t : Fin cfg0.N) (i : Fin 256) (k : Fin 2048) (j : Fin 20480) (q : Fin 10368) (hj : j.val = t.val * 256 + i.val)
    (hq : q.val = 6144 + k.val) :
    (X0_4 m c t : FVec Ideal S256x2048 .f32) (ix2 i k) = m ((c : Thread nD τ).loc main_arg2) (ix2 j q) := by
  unfold X0_4 Pipeline.Window.fill
  rw [dif_pos (moved0_4 t _)]
  blk_simp [iblk, idx_4]
  rw [V_main_arg2]
  congr 1
  blk_ext [idx_4]

/-- A block of the projected columns of window 5. -/
theorem blk_5 (t : Fin cfg0.N) (i : Fin 256) (k : Fin 2048) (j : Fin 20480) (q : Fin 10368) (hj : j.val = t.val * 256 + i.val)
    (hq : q.val = 8192 + k.val) :
    (X0_5 m c t : FVec Ideal S256x2048 .f32) (ix2 i k) = m ((c : Thread nD τ).loc main_arg2) (ix2 j q) := by
  unfold X0_5 Pipeline.Window.fill
  rw [dif_pos (moved0_5 t _)]
  blk_simp [iblk, idx_5]
  rw [V_main_arg2]
  congr 1
  blk_ext [idx_5]

/-- The kernel's result array. -/
theorem final : (dats m 0 c).arrAt 9 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 9 _ (by decide +kernel) fun t hf y => ?_
  blk_simp
  rw [after0_9]
  unfold outsAt0
  rw [out_A, pieces_val]
  have ht : t.val < 80 := lt_of_lt_of_eq t.isLt N_0
  have key : ∀ (i : Fin 256) (k : Fin 2048) (j : Fin 20480), j.val = t.val * 256 + i.val →
      k0_pay1 (F := Ideal) (k0_pay19 (F := Ideal) (iblk m c 3 t) (iblk m c 8 t))
        (k0_pay20 (F := Ideal) (rows (iblk m c 0 t) (iblk m c 1 t) (X0_2 m c t) (iblk m c 6 t)) (iblk m c 7 t) (X0_4 m c t))
        (X0_5 m c t) (ix2 i k) =
      G (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 j k) := by
    intro i k j hj
    refine (pay1 _ _ _ _ _ _ i k).trans ?_
    have e0 := fun l => blk_0 m c t i l j hj
    have e1 := fun l => blk_1 m c t i l j hj
    have e2 : ∀ l : Fin 1024, (X0_2 m c t : FVec Ideal S256x1024 .f32) (ix2 i l) =
        m ((c : Thread nD τ).loc main_arg2) (ix2 j ⟨3072 + l.val, by omega⟩) := fun l => blk_2 m c t i l j _ hj rfl
    have er : ∀ l : Fin 1024, rows (iblk m c 0 t) (iblk m c 1 t) (X0_2 m c t) (iblk m c 6 t) (ix2 i l) =
        hnG (m ((c : Thread nD τ).loc main_arg0)) (m ((c : Thread nD τ).loc main_arg1)) (m ((c : Thread nD τ).loc main_arg2))
          (m ((c : Thread nD τ).loc main_arg4)) j l := fun l =>
      hn_congr (fun l => add_congr (e0 l) (e1 l)) (blk_6 m c t) e2 l
    exact add_congr (mul_congr (congrArg sg (blk_4 m c t i k j _ hj rfl))
        (Finset.sum_congr rfl fun l _ => mul_congr (er l) (blk_7 m c t l k)))
      (mul_congr (congrArg sg (blk_5 m c t i k j _ hj rfl))
        (Finset.sum_congr rfl fun l _ => mul_congr (blk_3 m c t i l j hj) (blk_8 m c t l k)))
  have y0 : (y 0).val < 256 := (y 0).isLt
  have y1 : (y 1).val < 2048 := (y 1).isLt
  refine Eq.trans (congrArg _ ?_) ((key ⟨(y 0).val, y0⟩ ⟨(y 1).val, y1⟩ ⟨t.val * 256 + (y 0).val, by omega⟩ rfl).trans
    (congrArg _ ?_))
  · funext a; fin_cases a <;> rfl
  · blk_ext [idx_9]
end

section
open Cert.MergeRefIdeal Cert.MergeRefIdeal.Gen

set_option maxHeartbeats 4000000 in
/-- The reference's result array. -/
theorem ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v40) = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Cert.MergeRefIdeal.Value.run (F := Ideal) m g)
  funext y
  idx_vars y
  clear h
  pointwise [G, G', hnG, hn, sg]
end
end Cert.MergeVal
end
end
-- ==== Proof.NormVal.lean ====
/-
  The final norm: what the kernel leaves in its result array, and that the reference leaves the same.
-/
module

public import proofs.«01_k».proof.Proof.Gen.NormIdeal.Value
public import proofs.«01_k».proof.Proof.Gen.NormRefIdeal.Run
public import proofs.«01_k».proof.Defs
public import Idealize.ShloMosaic.Lib.Pointwise
public import Idealize.ShloMosaic.Lib.Pipeline.ReadBack
public import Idealize.ShloMosaic.Lib.Pipeline.ValueKit
public import Idealize.ShloMosaic.PureOps.Ideal

@[expose] public section

set_option maxRecDepth 16384

noncomputable section

namespace Cert.NormVal

open Idealize.ShloMosaic Idealize.ShloMosaic.TcCoe Idealize.SL.Sem

section
open Cert.NormIdeal Cert.NormIdeal.Gen

/-- What the body stores of a block of tokens, at an index. -/
theorem pay1 (x : FVec Ideal S512x2048 .f32) (w : FVec Ideal S1x2048 .f32) (i : Fin 512) (k : Fin 2048) :
    k0_pay1 (F := Ideal) x w (ix2 i k) =
      x (ix2 i k) * Ideal.rsqrt (Ideal.div (∑ l, x (ix2 i l) * x (ix2 i l)) (Ideal.ofBits .f32 1157627904#32) +
        Ideal.ofBits .f32 897988541#32) * w (ix2 (0 : Fin 1) k) := by
  pointwise [k0_pay1]

variable (m : (ℓ : Loc nD τ sig) → Buf (Elt Ideal) ℓ) (c : Dev nD)

/-- The weights the kernel is handed are the argument. -/
theorem V_nw (k : Fin 2048) : (V m c main_v0 : FVec Ideal S1x2048 .f32) (ix2 (0 : Fin 1) k) =
    m ((c : Thread nD τ).loc main_arg1) (ix1 k) := by
  have e : (V m c main_v0 : FVec Ideal S1x2048 .f32) = shapeCast S1x2048 (m ((c : Thread nD τ).loc main_arg1)) shapeCasts_S2048_S1x2048 := by
    show StableHlo.after _ _ _ = _
    simp only [hostOps0]
    simp only [StableHlo.after_cons, StableHlo.after_nil]
    after_results_simp
    rfl
  rw [e]
  pointwise

/-- The norm of the tokens. -/
def G (x : FVec Ideal S20480x2048 .f32) (w : FVec Ideal S2048 .f32) : FVec Ideal S20480x2048 .f32 := fun i =>
  x (ix2 (i 0) (i 1)) * Ideal.rsqrt (Ideal.div (∑ l : Fin 2048, x (ix2 (i 0) l) * x (ix2 (i 0) l)) (Ideal.ofBits .f32 1157627904#32) +
    Ideal.ofBits .f32 897988541#32) * w (ix1 (i 1))

/-- Where the blocks of the tokens lie. -/
theorem idx_0 : ∀ t : Fin cfg0.N, win0_0.index t = ![t.val, 0] := (by decide +kernel : ∀ t : Fin grid0.N, _)
/-- Where the weights lie: they are one block. -/
theorem idx_1 : ∀ t : Fin cfg0.N, win0_1.index t = ![0, 0] := (by decide +kernel : ∀ t : Fin grid0.N, _)
/-- Where the blocks of the result lie. -/
theorem idx_2 : ∀ t : Fin cfg0.N, win0_2.index t = ![t.val, 0] := (by decide +kernel : ∀ t : Fin grid0.N, _)

/-- A block of the tokens. -/
theorem blk_0 (t : Fin cfg0.N) (i : Fin 512) (k : Fin 2048) (j : Fin 20480) (hj : j.val = t.val * 512 + i.val) :
    (iblk m c 0 t : FVec Ideal S512x2048 .f32) (ix2 i k) = m ((c : Thread nD τ).loc main_arg0) (ix2 j k) := by
  blk_simp [iblk, idx_0]
  rw [V_main_arg0]
  congr 1
  blk_ext [idx_0]

/-- The block of the weights. -/
theorem blk_1 (t : Fin cfg0.N) (k : Fin 2048) :
    (iblk m c 1 t : FVec Ideal S1x2048 .f32) (ix2 (0 : Fin 1) k) = m ((c : Thread nD τ).loc main_arg1) (ix1 k) := by
  rw [← V_nw m c]
  blk_simp [iblk, idx_1]
  congr 1
  blk_ext [idx_1]

/-- What the body leaves is what it stores. -/
theorem out_eq (x : Vec Ideal S512x2048 .f32) (w : Vec Ideal S1x2048 .f32) : out0_2 (F := Ideal) x w = k0_pay1 (F := Ideal) x w := by
  unfold out0_2
  frame_out

/-- The kernel's result array. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2, out_eq]
  have ht : t.val < 40 := lt_of_lt_of_eq t.isLt N_0
  have key : ∀ (i : Fin 512) (k : Fin 2048) (j : Fin 20480), j.val = t.val * 512 + i.val →
      k0_pay1 (F := Ideal) (iblk m c 0 t) (iblk m c 1 t) (ix2 i k) =
      G (m ((c : Thread nD τ).loc main_arg0)) (m ((c : Thread nD τ).loc main_arg1)) (ix2 j k) := by
    intro i k j hj
    refine (pay1 _ _ i k).trans ?_
    have e0 := fun l => blk_0 m c t i l j hj
    rw [e0, blk_1 m c t k]
    simp only [e0]
    rfl
  have y0 : (y 0).val < 512 := (y 0).isLt
  have y1 : (y 1).val < 2048 := (y 1).isLt
  refine Eq.trans (congrArg _ ?_) ((key ⟨(y 0).val, y0⟩ ⟨(y 1).val, y1⟩ ⟨t.val * 512 + (y 0).val, by omega⟩ rfl).trans
    (congrArg _ ?_))
  · funext a; fin_cases a <;> rfl
  · blk_ext [idx_2]
end

section
open Cert.NormRefIdeal Cert.NormRefIdeal.Gen

set_option maxHeartbeats 4000000 in
/-- The reference's result array. -/
theorem ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v12) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.NormRefIdeal.Value.run (F := Ideal) m g)
  clear h
  funext y
  idx_vars y
  pointwise [G]
end
end Cert.NormVal
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.InProjIdeal.Value
public import proofs.«01_k».proof.Proof.Gen.InProj.Frame
public import proofs.«01_k».proof.Proof.Gen.InProjRefIdeal.Run
public import proofs.«01_k».proof.Proof.Gen.MergeIdeal.Value
public import proofs.«01_k».proof.Proof.Gen.Merge.Frame
public import proofs.«01_k».proof.Proof.Gen.MergeRefIdeal.Run
public import proofs.«01_k».proof.Proof.Gen.GateIdeal.Value
public import proofs.«01_k».proof.Proof.Gen.Gate.Frame
public import proofs.«01_k».proof.Proof.Gen.GateRefIdeal.Run
public import proofs.«01_k».proof.Proof.Gen.NormIdeal.Value
public import proofs.«01_k».proof.Proof.Gen.Norm.Frame
public import proofs.«01_k».proof.Proof.Gen.NormRefIdeal.Run
public import proofs.«01_k».proof.Proof.Gen.OutProjIdeal.Value
public import proofs.«01_k».proof.Proof.Gen.OutProj.Frame
public import proofs.«01_k».proof.Proof.Gen.OutProjRefIdeal.Run
public import proofs.«01_k».proof.Proof.DNPre
public import proofs.«01_k».proof.Proof.DNRef
public import proofs.«01_k».proof.Proof.GateVal
public import proofs.«01_k».proof.Proof.InVal
public import proofs.«01_k».proof.Proof.MergeVal
public import proofs.«01_k».proof.Proof.NormVal
public import proofs.«01_k».proof.Proof.OutVal
public import Idealize.ShloMosaic.Lib.Quiescent
public import Idealize.ShloMosaic.Adequacy
public import Idealize.ShloMosaic.Init

@[expose] public section

noncomputable section

namespace Cert.Proof

open Idealize.ShloMosaic Idealize.SL.Sem Cert.DNRef

/-- The reference terminates, leaves its arguments unchanged, and has no semaphore to leave nonzero. -/
theorem frame_ref : Cert.quiescent_ReferenceIdeal := fun m ρ _ =>
  (θ_run Cert.ReferenceIdeal.defs _ _).mono (fun r h => ⟨fun c => (h c).2.2, sem_eq_zero_of_no_sems rfl r.2⟩)
    (Cert.ReferenceIdeal.Value.run (F := Ideal) m ρ)

/-- The masking constant stands for minus infinity. -/
theorem preserves : Cert.preserves_Kernel_KernelIdeal := by
  exact IdealRules.named_const.statement Cert.KernelIdeal.κ "masked" .f32 0xF149F2CA#32 _ rfl

/-- From equal arguments that are real numbers the kernel and the recurrence leave equal outputs and equal states. -/
theorem algebraic [hPre_finite : Cert.Pre_finite.Facts] : Cert.algebraic_KernelIdeal_ReferenceIdeal_pre_finite := by
  intro m g m' g' hm hmm
  refine ⟨Cert.KernelIdeal.Value.G10 m, Cert.KernelIdeal.Value.G11 m, Cert.KernelIdeal.Value.run m g, ?_⟩
  refine (θ_run Cert.ReferenceIdeal.defs _ _).mono (fun r h c => ?_) (Cert.ReferenceIdeal.Value.run (F := Ideal) m' g')
  have A := Cert.DNPre.args m c hm
  have R : RArgs m' c (Cert.DNPre.nums m c) :=
    ⟨(hmm c).1.trans A.h0, (hmm c).2.1.trans A.h1, (hmm c).2.2.1.trans A.h2, (hmm c).2.2.2.1.trans A.h3,
      (hmm c).2.2.2.2.trans A.h4⟩
  exact ⟨(h c).1.trans ((out_val R).trans (Cert.DN.g10 A).symm), (h c).2.1.trans ((st_val R).trans (Cert.DN.g11 A).symm),
    (h c).2.2⟩

/-- The reference of the input projection terminates, leaves its arguments unchanged, and has no semaphore to leave nonzero. -/
theorem frame_InProjRef : Cert.quiescent_InProjRefIdeal := fun m ρ _ =>
  (θ_run Cert.InProjRefIdeal.defs _ _).mono (fun r h => ⟨fun c => (h c).2, sem_eq_zero_of_no_sems rfl r.2⟩)
    (Cert.InProjRefIdeal.Value.run (F := Ideal) m ρ)

/-- From equal arguments the input projection and its reference leave equal results. -/
theorem algebraic_InProj : Cert.algebraic_InProjIdeal_InProjRefIdeal := by
  intro m g m' g' _ hmm
  refine ⟨fun c => Cert.InVal.G (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)),
    (θ_run Cert.InProjIdeal.defs _ _).mono (fun r h c => ⟨(h c).1.trans (Cert.InVal.final m c), (h c).2⟩) (Cert.InProjIdeal.Value.run_blocks m g),
    (θ_run Cert.InProjRefIdeal.defs _ _).mono (fun r h c => ⟨(h c).1.trans ?_, (h c).2⟩) (Cert.InVal.ref m' g')⟩
  rw [(hmm c).1, (hmm c).2.1, (hmm c).2.2.1, (hmm c).2.2.2]

/-- The reference of the merge terminates, leaves its arguments unchanged, and has no semaphore to leave nonzero. -/
theorem frame_MergeRef : Cert.quiescent_MergeRefIdeal := fun m ρ _ =>
  (θ_run Cert.MergeRefIdeal.defs _ _).mono (fun r h => ⟨fun c => (h c).2, sem_eq_zero_of_no_sems rfl r.2⟩)
    (Cert.MergeRefIdeal.Value.run (F := Ideal) m ρ)

/-- From equal arguments the merge and its reference leave equal results. -/
theorem algebraic_Merge : Cert.algebraic_MergeIdeal_MergeRefIdeal := by
  intro m g m' g' _ hmm
  refine ⟨fun c => Cert.MergeVal.G (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6)),
    (θ_run Cert.MergeIdeal.defs _ _).mono (fun r h c => ⟨(h c).1.trans (Cert.MergeVal.final m c), (h c).2⟩) (Cert.MergeIdeal.Value.run_blocks m g),
    (θ_run Cert.MergeRefIdeal.defs _ _).mono (fun r h c => ⟨(h c).1.trans ?_, (h c).2⟩) (Cert.MergeVal.ref m' g')⟩
  rw [(hmm c).1, (hmm c).2.1, (hmm c).2.2.1, (hmm c).2.2.2.1, (hmm c).2.2.2.2.1, (hmm c).2.2.2.2.2.1, (hmm c).2.2.2.2.2.2]

/-- The reference of the output projection terminates, leaves its arguments unchanged, and has no semaphore to leave nonzero. -/
theorem frame_OutProjRef : Cert.quiescent_OutProjRefIdeal := fun m ρ _ =>
  (θ_run Cert.OutProjRefIdeal.defs _ _).mono (fun r h => ⟨fun c => (h c).2, sem_eq_zero_of_no_sems rfl r.2⟩)
    (Cert.OutProjRefIdeal.Value.run (F := Ideal) m ρ)

/-- From equal arguments the output projection and its reference leave equal results. -/
theorem algebraic_OutProj : Cert.algebraic_OutProjIdeal_OutProjRefIdeal := by
  intro m g m' g' _ hmm
  refine ⟨fun c => Cert.OutVal.G (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)),
    (θ_run Cert.OutProjIdeal.defs _ _).mono (fun r h c => ⟨(h c).1.trans (Cert.OutVal.final m c), (h c).2⟩) (Cert.OutProjIdeal.Value.run_blocks m g),
    (θ_run Cert.OutProjRefIdeal.defs _ _).mono (fun r h c => ⟨(h c).1.trans ?_, (h c).2⟩) (Cert.OutVal.ref m' g')⟩
  rw [(hmm c).1, (hmm c).2.1, (hmm c).2.2.1, (hmm c).2.2.2]

/-- The reference of the spatial gate terminates, leaves its arguments unchanged, and has no semaphore to leave nonzero. -/
theorem frame_GateRef : Cert.quiescent_GateRefIdeal := fun m ρ _ =>
  (θ_run Cert.GateRefIdeal.defs _ _).mono (fun r h => ⟨fun c => (h c).2, sem_eq_zero_of_no_sems rfl r.2⟩)
    (Cert.GateRefIdeal.Value.run (F := Ideal) m ρ)

/-- From equal arguments the spatial gate and its reference leave equal results. -/
theorem algebraic_Gate : Cert.algebraic_GateIdeal_GateRefIdeal := by
  intro m g m' g' _ hmm
  refine ⟨fun c => Cert.GateVal.G
      (m ((c.tc : Thread Cert.GateIdeal.nD Cert.GateIdeal.τ).loc Cert.GateIdeal.main_arg0))
      (m ((c.tc : Thread Cert.GateIdeal.nD Cert.GateIdeal.τ).loc Cert.GateIdeal.main_arg1))
      (m ((c.tc : Thread Cert.GateIdeal.nD Cert.GateIdeal.τ).loc Cert.GateIdeal.main_arg2))
      (m ((c.tc : Thread Cert.GateIdeal.nD Cert.GateIdeal.τ).loc Cert.GateIdeal.main_arg3)),
    (θ_run Cert.GateIdeal.defs _ _).mono (fun r h c => ⟨(h c).1.trans (Cert.GateVal.final m c), (h c).2⟩) (Cert.GateIdeal.Value.run_blocks m g),
    (θ_run Cert.GateRefIdeal.defs _ _).mono (fun r h c => ⟨(h c).1.trans ?_, (h c).2⟩) (Cert.GateVal.ref m' g')⟩
  rw [(hmm c).1, (hmm c).2.1, (hmm c).2.2.1, (hmm c).2.2.2]

/-- The reference of the final norm terminates, leaves its arguments unchanged, and has no semaphore to leave nonzero. -/
theorem frame_NormRef : Cert.quiescent_NormRefIdeal := fun m ρ _ =>
  (θ_run Cert.NormRefIdeal.defs _ _).mono (fun r h => ⟨fun c => (h c).2, sem_eq_zero_of_no_sems rfl r.2⟩)
    (Cert.NormRefIdeal.Value.run (F := Ideal) m ρ)

/-- From equal arguments the final norm and its reference leave equal results. -/
theorem algebraic_Norm : Cert.algebraic_NormIdeal_NormRefIdeal := by
  intro m g m' g' _ hmm
  refine ⟨fun c => Cert.NormVal.G
      (m ((c.tc : Thread Cert.NormIdeal.nD Cert.NormIdeal.τ).loc Cert.NormIdeal.main_arg0))
      (m ((c.tc : Thread Cert.NormIdeal.nD Cert.NormIdeal.τ).loc Cert.NormIdeal.main_arg1)),
    (θ_run Cert.NormIdeal.defs _ _).mono (fun r h c => ⟨(h c).1.trans (Cert.NormVal.final m c), (h c).2⟩) (Cert.NormIdeal.Value.run_blocks m g),
    (θ_run Cert.NormRefIdeal.defs _ _).mono (fun r h c => ⟨(h c).1.trans ?_, (h c).2⟩) (Cert.NormVal.ref m' g')⟩
  rw [(hmm c).1, (hmm c).2]

/-- Everything the certificate claims. -/
theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts,
  Cert.OutProj.Gen.facts, Cert.OutProjIdeal.Gen.facts, Cert.OutProjRefIdeal.Gen.facts,
  Cert.Gate.Gen.facts, Cert.GateIdeal.Gen.facts, Cert.GateRefIdeal.Gen.facts,
  Cert.Norm.Gen.facts, Cert.NormIdeal.Gen.facts, Cert.NormRefIdeal.Gen.facts,
  Cert.DNPre.facts, fun m ρ _ => Cert.Kernel.Gen.frame m ρ, fun m ρ _ => Cert.KernelIdeal.Gen.frame m ρ,
  fun m ρ _ => Cert.KernelIdeal.Gen.frame m ρ, frame_ref, fun m ρ _ => frame_ref m ρ trivial,
  fun m ρ _ => Cert.InProj.Gen.frame m ρ, fun m ρ _ => Cert.InProjIdeal.Gen.frame m ρ, frame_InProjRef,
  fun m ρ _ => Cert.Merge.Gen.frame m ρ, fun m ρ _ => Cert.MergeIdeal.Gen.frame m ρ, frame_MergeRef,
  fun m ρ _ => Cert.OutProj.Gen.frame m ρ, fun m ρ _ => Cert.OutProjIdeal.Gen.frame m ρ, frame_OutProjRef,
  fun m ρ _ => Cert.Gate.Gen.frame m ρ, fun m ρ _ => Cert.GateIdeal.Gen.frame m ρ, frame_GateRef,
  fun m ρ _ => Cert.Norm.Gen.frame m ρ, fun m ρ _ => Cert.NormIdeal.Gen.frame m ρ, frame_NormRef,
  preserves, algebraic (hPre_finite := Cert.DNPre.facts), trivial, algebraic_InProj, trivial, algebraic_Merge, trivial, algebraic_OutProj,
  trivial, algebraic_Gate, trivial, algebraic_Norm⟩

end Cert.Proof

end
